-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S100000x128 : Shape := ⟨2, ![100000, 128]⟩
abbrev S256x1024 : Shape := ⟨2, ![256, 1024]⟩
abbrev S1024 : Shape := ⟨1, ![1024]⟩
abbrev S1024x128 : Shape := ⟨2, ![1024, 128]⟩
abbrev S128 : Shape := ⟨1, ![128]⟩
abbrev S128x1024 : Shape := ⟨2, ![128, 1024]⟩
abbrev S1024x1 : Shape := ⟨2, ![1024, 1]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S100000x128 .f32) (main_arg3 : FVec F S100000x128 .f32) (main_arg4 : FVec F S256x1024 .f32) (main_arg5 : FVec F S1024 .f32) (main_arg6 : FVec F S1024x128 .f32) (main_arg7 : FVec F S128 .f32) (main_arg8 : FVec F S128x1024 .f32) (main_arg9 : FVec F S1024 .f32) (main_arg10 : FVec F S1024x1 .f32) (main_arg11 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 100000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  main_v12
-- ==== Kernel.lean ====
abbrev S16384 : Shape := ⟨1, ![16384]⟩
abbrev S100000x128 : Shape := ⟨2, ![100000, 128]⟩
abbrev S256x1024 : Shape := ⟨2, ![256, 1024]⟩
abbrev S1024 : Shape := ⟨1, ![1024]⟩
abbrev S1024x128 : Shape := ⟨2, ![1024, 128]⟩
abbrev S128 : Shape := ⟨1, ![128]⟩
abbrev S128x1024 : Shape := ⟨2, ![128, 1024]⟩
abbrev S1024x1 : Shape := ⟨2, ![1024, 1]⟩
abbrev S1 : Shape := ⟨1, ![1]⟩
abbrev S1x1024 : Shape := ⟨2, ![1, 1024]⟩
abbrev S1x128 : Shape := ⟨2, ![1, 128]⟩
abbrev S1x1 : Shape := ⟨2, ![1, 1]⟩
abbrev S8192x128 : Shape := ⟨2, ![8192, 128]⟩
abbrev S256 : Shape := ⟨1, ![256]⟩
abbrev S256x128 : Shape := ⟨2, ![256, 128]⟩
abbrev S_ : Shape := ⟨0, ![]⟩
abbrev S8192x1 : Shape := ⟨2, ![8192, 1]⟩
abbrev S4096x128 : Shape := ⟨2, ![4096, 128]⟩
abbrev S4096x1 : Shape := ⟨2, ![4096, 1]⟩
abbrev S4096x256 : Shape := ⟨2, ![4096, 256]⟩
abbrev S4096x1024 : Shape := ⟨2, ![4096, 1024]⟩
abbrev S4096 : Shape := ⟨1, ![4096]⟩
abbrev S16384x1 : Shape := ⟨2, ![16384, 1]⟩

abbrev nBuf : Table → Nat
  | .hbm => 31
  | .local .tc .vmem => 28
  | .local .scVector .vmem => 8
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S256x1024, .f32⟩
  | .hbm, ⟨5, _⟩ => ⟨S1024, .f32⟩
  | .hbm, ⟨6, _⟩ => ⟨S1024x128, .f32⟩
  | .hbm, ⟨7, _⟩ => ⟨S128, .f32⟩
  | .hbm, ⟨8, _⟩ => ⟨S128x1024, .f32⟩
  | .hbm, ⟨9, _⟩ => ⟨S1024, .f32⟩
  | .hbm, ⟨10, _⟩ => ⟨S1024x1, .f32⟩
  | .hbm, ⟨11, _⟩ => ⟨S1, .f32⟩
  | .hbm, ⟨12, _⟩ => ⟨S256x1024, .bf16⟩
  | .hbm, ⟨13, _⟩ => ⟨S1x1024, .f32⟩
  | .hbm, ⟨14, _⟩ => ⟨S1x1024, .bf16⟩
  | .hbm, ⟨15, _⟩ => ⟨S1024x128, .bf16⟩
  | .hbm, ⟨16, _⟩ => ⟨S1x128, .f32⟩
  | .hbm, ⟨17, _⟩ => ⟨S1x128, .bf16⟩
  | .hbm, ⟨18, _⟩ => ⟨S128x1024, .bf16⟩
  | .hbm, ⟨19, _⟩ => ⟨S1x1024, .f32⟩
  | .hbm, ⟨20, _⟩ => ⟨S1x1024, .bf16⟩
  | .hbm, ⟨21, _⟩ => ⟨S1x1024, .f32⟩
  | .hbm, ⟨22, _⟩ => ⟨S1x1, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x1, .f32⟩
  | .hbm, ⟨28, _⟩ => ⟨S8192x1, .f32⟩
  | .hbm, ⟨29, _⟩ => ⟨S16384x1, .f32⟩
  | .hbm, ⟨30, _⟩ => ⟨S16384, .f32⟩
  | .local .tc .vmem, ⟨0, _⟩ => ⟨S4096x128, .f32⟩
  | .local .tc .vmem, ⟨1, _⟩ => ⟨S4096x128, .f32⟩
  | .local .tc .vmem, ⟨2, _⟩ => ⟨S4096x128, .f32⟩
  | .local .tc .vmem, ⟨3, _⟩ => ⟨S4096x128, .f32⟩
  | .local .tc .vmem, ⟨4, _⟩ => ⟨S256x1024, .bf16⟩
  | .local .tc .vmem, ⟨5, _⟩ => ⟨S1x1024, .bf16⟩
  | .local .tc .vmem, ⟨6, _⟩ => ⟨S1024x128, .bf16⟩
  | .local .tc .vmem, ⟨7, _⟩ => ⟨S1x128, .bf16⟩
  | .local .tc .vmem, ⟨8, _⟩ => ⟨S128x1024, .bf16⟩
  | .local .tc .vmem, ⟨9, _⟩ => ⟨S1x1024, .bf16⟩
  | .local .tc .vmem, ⟨10, _⟩ => ⟨S1x1024, .f32⟩
  | .local .tc .vmem, ⟨11, _⟩ => ⟨S1x1, .f32⟩
  | .local .tc .vmem, ⟨12, _⟩ => ⟨S4096x1, .f32⟩
  | .local .tc .vmem, ⟨13, _⟩ => ⟨S4096x1, .f32⟩
  | .local .tc .vmem, ⟨14, _⟩ => ⟨S4096x128, .f32⟩
  | .local .tc .vmem, ⟨15, _⟩ => ⟨S4096x128, .f32⟩
  | .local .tc .vmem, ⟨16, _⟩ => ⟨S4096x128, .f32⟩
  | .local .tc .vmem, ⟨17, _⟩ => ⟨S4096x128, .f32⟩
  | .local .tc .vmem, ⟨18, _⟩ => ⟨S256x1024, .bf16⟩
  | .local .tc .vmem, ⟨19, _⟩ => ⟨S1x1024, .bf16⟩
  | .local .tc .vmem, ⟨20, _⟩ => ⟨S1024x128, .bf16⟩
  | .local .tc .vmem, ⟨21, _⟩ => ⟨S1x128, .bf16⟩
  | .local .tc .vmem, ⟨22, _⟩ => ⟨S128x1024, .bf16⟩
  | .local .tc .vmem, ⟨23, _⟩ => ⟨S1x1024, .bf16⟩
  | .local .tc .vmem, ⟨24, _⟩ => ⟨S1x1024, .f32⟩
  | .local .tc .vmem, ⟨25, _⟩ => ⟨S1x1, .f32⟩
  | .local .tc .vmem, ⟨26, _⟩ => ⟨S4096x1, .f32⟩
  | .local .tc .vmem, ⟨27, _⟩ => ⟨S4096x1, .f32⟩
  | .local .scVector .vmem, ⟨0, _⟩ => ⟨S256, .i32⟩
  | .local .scVector .vmem, ⟨1, _⟩ => ⟨S256, .i32⟩
  | .local .scVector .vmem, ⟨2, _⟩ => ⟨S256x128, .f32⟩
  | .local .scVector .vmem, ⟨3, _⟩ => ⟨S256x128, .f32⟩
  | .local .scVector .vmem, ⟨4, _⟩ => ⟨S256, .i32⟩
  | .local .scVector .vmem, ⟨5, _⟩ => ⟨S256, .i32⟩
  | .local .scVector .vmem, ⟨6, _⟩ => ⟨S256x128, .f32⟩
  | .local .scVector .vmem, ⟨7, _⟩ => ⟨S256x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 40 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTables nBuf rfl bufTy 4 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v12_0 : Ref sig .tc := ⟨.hbm, 25, rfl⟩
abbrev main_v12_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v11_0_scv : Ref sig .scVector := ⟨.hbm, 23, rfl⟩
abbrev main_v11_1_scv : Ref sig .scVector := ⟨.hbm, 24, rfl⟩
abbrev main_v12_0_scv : Ref sig .scVector := ⟨.hbm, 25, rfl⟩
abbrev main_v12_1_scv : Ref sig .scVector := ⟨.hbm, 26, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg3_0 : Ref sig .tc := ⟨.vmem, 5, rfl⟩
abbrev cc2_stg4_0 : Ref sig .tc := ⟨.vmem, 6, rfl⟩
abbrev cc2_stg5_0 : Ref sig .tc := ⟨.vmem, 7, rfl⟩
abbrev cc2_stg6_0 : Ref sig .tc := ⟨.vmem, 8, rfl⟩
abbrev cc2_stg7_0 : Ref sig .tc := ⟨.vmem, 9, rfl⟩
abbrev cc2_stg8_0 : Ref sig .tc := ⟨.vmem, 10, rfl⟩
abbrev cc2_stg9_0 : Ref sig .tc := ⟨.vmem, 11, rfl⟩
abbrev cc2_stg10_0 : Ref sig .tc := ⟨.vmem, 12, rfl⟩
abbrev cc2_stg10_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc3_stg6_0 : Ref sig .tc := ⟨.vmem, 22, rfl⟩
abbrev cc3_stg7_0 : Ref sig .tc := ⟨.vmem, 23, rfl⟩
abbrev cc3_stg8_0 : Ref sig .tc := ⟨.vmem, 24, rfl⟩
abbrev cc3_stg9_0 : Ref sig .tc := ⟨.vmem, 25, rfl⟩
abbrev cc3_stg10_0 : Ref sig .tc := ⟨.vmem, 26, rfl⟩
abbrev cc3_stg10_1 : Ref sig .tc := ⟨.vmem, 27, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem10_0 : DmaSem sig := 24
abbrev cc2_sem10_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem9_0 : DmaSem sig := 37
abbrev cc3_sem10_0 : DmaSem sig := 38
abbrev cc3_sem10_1 : DmaSem sig := 39
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c0_i32 v2
  ![v3.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_0 : BitVec 32 := 256#32
  let v4 : BitVec 32 := Scalar.muli v1 c256_i32_0
  let c0_i32_7 : BitVec 32 := 0#32
  ![v4.toNat, 0]
abbrev grid1 : Pipeline.Grid := ⟨2, ![2, 16], ![false, false]⟩

def k1_off1 (i : grid1.Coords) : Fin 1 → Nat :=
  let c8192_i32 : BitVec 32 := 8192#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c8192_i32 v2
  ![v3.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_0 : BitVec 32 := 256#32
  let v4 : BitVec 32 := Scalar.muli v1 c256_i32_0
  let c0_i32_6 : BitVec 32 := 0#32
  ![v4.toNat, 0]
abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S4096x1 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1024x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x1024 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1024 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S4096x1 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384 : Shape := ⟨1, ![16384]⟩
abbrev S100000x128 : Shape := ⟨2, ![100000, 128]⟩
abbrev S256x1024 : Shape := ⟨2, ![256, 1024]⟩
abbrev S1024 : Shape := ⟨1, ![1024]⟩
abbrev S1024x128 : Shape := ⟨2, ![1024, 128]⟩
abbrev S128 : Shape := ⟨1, ![128]⟩
abbrev S128x1024 : Shape := ⟨2, ![128, 1024]⟩
abbrev S1024x1 : Shape := ⟨2, ![1024, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S16384x256 : Shape := ⟨2, ![16384, 256]⟩
abbrev S16384x1024 : Shape := ⟨2, ![16384, 1024]⟩
abbrev S1x1024 : Shape := ⟨2, ![1, 1024]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S256x1024, .f32⟩
  | .hbm, ⟨5, _⟩ => ⟨S1024, .f32⟩
  | .hbm, ⟨6, _⟩ => ⟨S1024x128, .f32⟩
  | .hbm, ⟨7, _⟩ => ⟨S128, .f32⟩
  | .hbm, ⟨8, _⟩ => ⟨S128x1024, .f32⟩
  | .hbm, ⟨9, _⟩ => ⟨S1024, .f32⟩
  | .hbm, ⟨10, _⟩ => ⟨S1024x1, .f32⟩
  | .hbm, ⟨11, _⟩ => ⟨S1, .f32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S1, .i32⟩
  | .hbm, ⟨21, _⟩ => ⟨S_, .i32⟩
  | .hbm, ⟨22, _⟩ => ⟨S16384x1, .i32⟩
  | .hbm, ⟨23, _⟩ => ⟨S16384x1, .i1⟩
  | .hbm, ⟨24, _⟩ => ⟨S1x1, .i32⟩
  | .hbm, ⟨25, _⟩ => ⟨S16384x1, .i32⟩
  | .hbm, ⟨26, _⟩ => ⟨S16384x1, .i1⟩
  | .hbm, ⟨27, _⟩ => ⟨S16384x1, .i1⟩
  | .hbm, ⟨28, _⟩ => ⟨S_, .i1⟩
  | .hbm, ⟨29, _⟩ => ⟨S16384, .i1⟩
  | .hbm, ⟨30, _⟩ => ⟨S16384x128, .f32⟩
  | .hbm, ⟨31, _⟩ => ⟨S16384x128, .i1⟩
  | .hbm, ⟨32, _⟩ => ⟨S_, .f32⟩
  | .hbm, ⟨33, _⟩ => ⟨S16384x128, .f32⟩
  | .hbm, ⟨34, _⟩ => ⟨S16384x128, .f32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S1, .i32⟩
  | .hbm, ⟨44, _⟩ => ⟨S_, .i32⟩
  | .hbm, ⟨45, _⟩ => ⟨S16384x1, .i32⟩
  | .hbm, ⟨46, _⟩ => ⟨S16384x1, .i1⟩
  | .hbm, ⟨47, _⟩ => ⟨S1x1, .i32⟩
  | .hbm, ⟨48, _⟩ => ⟨S16384x1, .i32⟩
  | .hbm, ⟨49, _⟩ => ⟨S16384x1, .i1⟩
  | .hbm, ⟨50, _⟩ => ⟨S16384x1, .i1⟩
  | .hbm, ⟨51, _⟩ => ⟨S_, .i1⟩
  | .hbm, ⟨52, _⟩ => ⟨S16384, .i1⟩
  | .hbm, ⟨53, _⟩ => ⟨S16384x128, .f32⟩
  | .hbm, ⟨54, _⟩ => ⟨S16384x128, .i1⟩
  | .hbm, ⟨55, _⟩ => ⟨S_, .f32⟩
  | .hbm, ⟨56, _⟩ => ⟨S16384x128, .f32⟩
  | .hbm, ⟨57, _⟩ => ⟨S16384x128, .f32⟩
  | .hbm, ⟨58, _⟩ => ⟨S16384x256, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S16384x128, .f32⟩
  | .hbm, ⟨67, _⟩ => ⟨S1x128, .f32⟩
  | .hbm, ⟨68, _⟩ => ⟨S16384x128, .f32⟩
  | .hbm, ⟨69, _⟩ => ⟨S16384x128, .f32⟩
  | .hbm, ⟨70, _⟩ => ⟨S16384x1024, .f32⟩
  | .hbm, ⟨71, _⟩ => ⟨S1x1024, .f32⟩
  | .hbm, ⟨72, _⟩ => ⟨S16384x1024, .f32⟩
  | .hbm, ⟨73, _⟩ => ⟨S16384x1024, .f32⟩
  | .hbm, ⟨74, _⟩ => ⟨S_, .f32⟩
  | .hbm, ⟨75, _⟩ => ⟨S16384x1024, .f32⟩
  | .hbm, ⟨76, _⟩ => ⟨S16384x1024, .f32⟩
  | .hbm, ⟨77, _⟩ => ⟨S16384x1, .f32⟩
  | .hbm, ⟨78, _⟩ => ⟨S1x1, .f32⟩
  | .hbm, ⟨79, _⟩ => ⟨S16384x1, .f32⟩
  | .hbm, ⟨80, _⟩ => ⟨S16384x1, .f32⟩
  | .hbm, ⟨81, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v1 : Ref sig .tc := ⟨.hbm, 57, rfl⟩
abbrev main_v2 : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_call2_cst : Ref sig .tc := ⟨.hbm, 63, rfl⟩
abbrev main_call2_v0 : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_call3_cst : Ref sig .tc := ⟨.hbm, 74, rfl⟩
abbrev main_call3_v0 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩

abbrev nD : Nat := 1
abbrev τ : Topo := Topo.v7x

variable {F : FTy → Type} [FloatOps F]
-- ==== Proof.Range.lean ====
/-
  What the precondition says: every id is below the number of the table's rows.
-/
module

public import proofs.«01_k».proof.Proof.Gen.Pre_in_range
public import Idealize.ShloMosaic.Lib.ReduceAll

@[expose] public section

noncomputable section

namespace Cert.Proof.Recommender

open Idealize.ShloMosaic
open Cert.Pre_in_range Cert.Pre_in_range.Gen

variable {F : FTy → Type} [FloatOps F]

/-- A word that is signed at least 0 and signed below 100000 is, read unsigned, below 100000. -/
theorem word_range {v : BitVec 32} (h : IntOp.andi (IntOp.cmpi .sge v 0#32) (IntOp.cmpi .slt v 100000#32) = 1#1) : v.toNat < 100000 := by
  obtain ⟨h0, h1⟩ := IntOp.andi_eq_one.1 h
  have h0 := IntOp.cmpi_sge.1 h0
  have h1 := IntOp.cmpi_slt.1 h1
  simp only [BitVec.toInt_eq_toNat_cond, BitVec.toNat_ofNat, Nat.reducePow, Nat.reduceMod] at h0 h1
  omega

/-- The precondition's two conjunctions over all ids, read at one position. -/
theorem range_of_pre (a0 a1 : IVec S16384 32) (a2 a3 : FVec F S100000x128 .f32) (a4 : FVec F S256x1024 .f32) (a5 : FVec F S1024 .f32)
    (a6 : FVec F S1024x128 .f32) (a7 : FVec F S128 .f32) (a8 : FVec F S128x1024 .f32) (a9 : FVec F S1024 .f32) (a10 : FVec F S1024x1 .f32)
    (a11 : FVec F S1 .f32) (h : Cert.Pre_in_range.fn a0 a1 a2 a3 a4 a5 a6 a7 a8 a9 a10 a11 = fun _ => 1#1) (j : S16384.Idx) :
    (a0 j : BitVec 32).toNat < 100000 ∧ (a1 j : BitVec 32).toNat < 100000 := by
  haveI : Subsingleton S_.Idx := ⟨fun a b => funext fun k => k.elim0⟩
  have e := congrFun h (fun k => k.elim0)
  unfold Cert.Pre_in_range.fn at e
  obtain ⟨e0, e1⟩ := IntOp.andi_eq_one.1 e
  exact ⟨word_range (Host.reduce_andi_all _ _ _ _ _ e0 j), word_range (Host.reduce_andi_all _ _ _ _ _ e1 j)⟩

end Cert.Proof.Recommender

end
-- ==== Proof.Printed.lean ====
/-
  The program as printed and the program read at extended reals have the same text: at the printed floats their bodies
  agree, label by label.
-/
module

public import proofs.«01_k».proof.Defs
public import proofs.«01_k».proof.Proof.Gen.Kernel
public import proofs.«01_k».proof.Proof.Gen.KernelIdeal

@[expose] public section

noncomputable section

namespace Cert.Proof.Recommender

open Idealize.ShloMosaic

/-- A SparseCore's scalar subcore runs none of the bodies. -/
theorem scalar_body (c : Fin Cert.Kernel.τ.nSC) (l : Fin 4) (a) :
    Cert.Kernel.defs₀ (F := Bits) (.scScalar c) l a = Cert.KernelIdeal.defs₀ (F := Bits) (.scScalar c) l a := rfl

/-- A vector subcore runs the two gathers. -/
theorem vector_body (c : Fin Cert.Kernel.τ.nSC) (s : Fin Cert.Kernel.τ.nSub) : ∀ (l : Fin 4) (a),
    Cert.Kernel.defs₀ (F := Bits) (.scVector c s) l a = Cert.KernelIdeal.defs₀ (F := Bits) (.scVector c s) l a
  | 0, _ => rfl
  | 1, _ => rfl
  | 2, _ => rfl
  | 3, _ => rfl

/-- The TensorCore runs the two network steps. -/
theorem tensor_body : ∀ (l : Fin 4) (a),
    Cert.Kernel.defs₀ (F := Bits) .tc l a = Cert.KernelIdeal.defs₀ (F := Bits) .tc l a
  | 0, _ => rfl
  | 1, _ => rfl
  | 2, _ => rfl
  | 3, _ => rfl

/-- The kernels' bodies agree, -/
theorem bodies_eq : Cert.Kernel.defs₀ (F := Bits) = Cert.KernelIdeal.defs₀ (F := Bits) :=
  funext fun p => match p with
    | .tc => funext fun l => funext fun a => tensor_body l a
    | .scScalar c => funext fun l => funext fun a => scalar_body c l a
    | .scVector c s => funext fun l => funext fun a => vector_body c s l a

/-- and with them everything that the programs run. -/
theorem printed_defs : Cert.Kernel.defs (F := Bits) = Cert.KernelIdeal.defs (F := Bits) := by
  unfold Cert.Kernel.defs Cert.KernelIdeal.defs
  exact congrArg (fun f => Cert.KernelIdeal.sc.defs (Pipeline.defs Cert.KernelIdeal.pcfgs f)) bodies_eq

end Cert.Proof.Recommender

end
-- ==== Proof.Setup.lean ====
/-
  The program as the launch of the two SparseCore calls sees it, and the ghost state the proof is written in.

  The TensorCore's program makes two gathers on the SparseCores and then runs two pipelines. The proof needs three
  components of ghost state side by side: the handshakes of the SparseCore calls, the staging cells of the
  TensorCore's two pipelines, and the counters of the tiles' own transfers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Recommender

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.Sem
open Idealize.ShloMosaic.Rounds

variable {F : FTy → Type}

/-! ## The program's configuration -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the launch: the semaphores of the handshake are distinct and outlive the calls. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' component, -/
abbrev UH : Type := URounds (GSem nD τ sig) ℕ
/-- the pipelines' component, -/
abbrev UP : Type := URounds (GSem nD τ sig) Unit
/-- and the two beside the transfers' counters. -/
abbrev UU : Type := UH × (UP × Counters)

/-- The machine's algebra for this proof. -/
abbrev MM (F : FTy → Type) : Type := MT nD τ sig (HIx 2) (Elt F) ℕ UU ℕ

/-- Where the handshakes' component sits, -/
abbrev EH : Emb UH (MM F) := embL
/-- and where the pipelines' does. -/
abbrev EP : Emb UP (MM F) := (Emb.inl : Emb UP (UP × Counters)).trans embR

end Cert.Proof.Recommender

end
-- ==== Proof.Tile.lean ====
/-
  One tile's task, stated once for both SparseCore calls.

  A task copies its 256 user numbers and its 256 item numbers into its own memory, gathers the rows of the two tables
  that they name, and writes the two blocks of 256 rows out. The two calls run the same task at different offsets of
  the number arrays and into different outputs, so the task is written here over arbitrary arrays, offsets and
  semaphores, and each call's printed kernel is an instance of it.
-/
module

public import proofs.«01_k».proof.Proof.Setup
public import Idealize.ShloMosaic.Lib.Pointwise.Index

@[expose] public section

noncomputable section

namespace Cert.Proof.Recommender

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

/-! ## What a call's output holds -/

/-- The rows of a table that the numbers from position `base` on name: row `y` of the output is the table's row
    number `nums (base + y)`. -/
def gathered (base : ℕ) (hb : base + 8192 ≤ 16384) (nums : S16384.Idx → BitVec 32) (tab : S100000x128.Idx → F .f32) :
    S8192x128.Idx → F .f32 := fun y =>
  tab (ix2 ⟨(nums (ix1 ⟨base + (y 0).val, by have h : (y 0).val < 8192 := (y 0).isLt; omega⟩)).toNat % 100000,
    Nat.mod_lt _ (by norm_num)⟩ (y 1))

section Task

variable (c : Fin τ.nSC) (s : Fin τ.nSub)
variable (o1 : Fin 1 → ℕ) (h1 : ∀ a, o1 a + S256.size a ≤ S16384.size a)
variable (o2 : Fin 2 → ℕ) (h2 : ∀ a, o2 a + S256x128.size a ≤ S8192x128.size a)
variable (a2 : Memref sig .scVector .hbm S16384 .i32) (a3 : Memref sig .scVector .hbm S16384 .i32)
variable (a4 : Memref sig .scVector .hbm S100000x128 .f32) (a5 : Memref sig .scVector .hbm S100000x128 .f32)
variable (a6 : Memref sig .scVector .hbm S8192x128 .f32) (a7 : Memref sig .scVector .hbm S8192x128 .f32)
variable (a8 : Memref sig .scVector .vmem S256 .i32) (h8 : a8.IsWhole) (a9 : Memref sig .scVector .vmem S256 .i32) (h9 : a9.IsWhole)
variable (a10 : Memref sig .scVector .vmem S256x128 .f32) (h10 : a10.IsWhole) (a11 : Memref sig .scVector .vmem S256x128 .f32) (h11 : a11.IsWhole)
variable (g0 g1 g2 g3 e0 e1 : DmaSem sig)

/-- The 256 numbers of an array that the task at offset `o1` reads. -/
abbrev numbers (a : Memref sig .scVector .hbm S16384 .i32) : Memref sig .scVector .hbm S256 .i32 :=
  a.slice (Rect.unit (s := S16384) o1 S256.size h1) (fun _ => rfl)
/-- The 256 rows of an output that the task at offset `o2` writes. -/
abbrev block (a : Memref sig .scVector .hbm S8192x128 .f32) : Memref sig .scVector .hbm S256x128 .f32 :=
  a.slice (Rect.unit (s := S8192x128) o2 S256x128.size h2) (fun _ => rfl)
/-- All of a table. -/
abbrev table (a : Memref sig .scVector .hbm S100000x128 .f32) : Memref sig .scVector .hbm S100000x128 .f32 :=
  a.slice (Rect.unit (s := S100000x128) ![0, 0] S100000x128.size inb_S100000x128_S100000x128_0_0) (fun _ => rfl)

/-- The task. -/
def task [FloatOps F] : Prog (TpuEff nD τ sig (Elt F) Λ₀ (.scVector c s)) PUnit := do
  Prog.lift (.enqueueDma (numbers o1 h1 a2) (.here a8) (.dma e0) (View.wordExact_bits rfl) h8.wordExact ⟨Or.inl rfl, trivial⟩)
  Prog.lift (.waitDma2 e0 (numbers o1 h1 a2) a8 (View.wordExact_bits rfl) h8.wordExact)
  Prog.lift (.enqueueDma (numbers o1 h1 a3) (.here a9) (.dma e1) (View.wordExact_bits rfl) h9.wordExact ⟨Or.inl rfl, trivial⟩)
  Prog.lift (.waitDma2 e1 (numbers o1 h1 a3) a9 (View.wordExact_bits rfl) h9.wordExact)
  SparseCore.enqueueIndirectGather rfl (table a4) a10 gathers_S100000x128_S256x128 a8 rfl g0 (View.wordExact_bits rfl) rfl (Or.inl rfl)
  SparseCore.enqueueIndirectGather rfl (table a5) a11 gathers_S100000x128_S256x128 a9 rfl g1 (View.wordExact_bits rfl) rfl (Or.inl rfl)
  SparseCore.waitIndirectGather g0 (table a4) a10 (View.wordExact_bits rfl) h10.wordExact
  Prog.lift (.enqueueDma a10 (.here (block o2 h2 a6)) (.dma g2) h10.wordExact (View.wordExact_bits rfl) ⟨Or.inl rfl, trivial⟩)
  SparseCore.waitIndirectGather g1 (table a5) a11 (View.wordExact_bits rfl) h11.wordExact
  Prog.lift (.enqueueDma a11 (.here (block o2 h2 a7)) (.dma g3) h11.wordExact (View.wordExact_bits rfl) ⟨Or.inl rfl, trivial⟩)
  Prog.lift (.waitDma2 g2 a10 (block o2 h2 a6) h10.wordExact (View.wordExact_bits rfl))
  Prog.lift (.waitDma2 g3 a11 (block o2 h2 a7) h11.wordExact (View.wordExact_bits rfl))
  pure ⟨⟩

variable [FloatOps F]

/-- The numbers a list buffer holds after the fetch are in range when all the array's numbers are. -/
theorem list_inb (a : Memref sig .scVector .hbm S16384 .i32) (b : Memref sig .scVector .vmem S256 .i32)
    (f : (a.view.ty).Contents (Elt F)) (hf : ∀ j, (a.view.read (Elt F) f j).toNat < 100000) :
    ∀ (g : (b.view.ty).Contents (Elt F)) (x : S256.Idx),
      (b.view.read (Elt F) (View.write (Elt F) b.view g (ReadAs.same.apply ((numbers o1 h1 a).view.read (Elt F) f)) Finset.univ) x).toNat
        < S100000x128.size gathers_S100000x128_S256x128.axis := by
  intro g x
  rw [View.read_write_univ]
  exact hf ((Rect.unit (s := S16384) o1 S256.size h1).emb x)

/-- Two contents that read the same through a view agree on the view's elements. -/
theorem eq_of_read {κ : Kind} {sp : Space} {sh : Shape} {e : EltTy} (v : View sig κ sp sh e) (f g : v.ty.Contents (Elt F))
    (h : v.read (Elt F) f = v.read (Elt F) g) : ∀ i ∈ v.set, f i = g i := by
  intro i hi
  obtain ⟨x, -, rfl⟩ := Finset.mem_map.mp hi
  have hx := congrFun h x
  rw [View.read_apply, View.read_apply] at hx
  exact (cast_inj _).mp hx

/-- The block a task writes, read back: when the output holds the gathered rows, the task's block of it is the rows
    that the task's own list names. -/
theorem block_read (base : ℕ) (hb : base + 8192 ≤ 16384) (ho : o1 0 = base + o2 0) (ho' : o2 1 = 0)
    (a : Memref sig .scVector .hbm S16384 .i32) (t : Memref sig .scVector .hbm S100000x128 .f32)
    (b : Memref sig .scVector .vmem S256 .i32) (r : Memref sig .scVector .vmem S256x128 .f32)
    (o : Memref sig .scVector .hbm S8192x128 .f32)
    (f : (a.view.ty).Contents (Elt F)) (hf : ∀ j, (a.view.read (Elt F) f j).toNat < 100000)
    (ft : (t.view.ty).Contents (Elt F)) (fb : (b.view.ty).Contents (Elt F)) (fr : (r.view.ty).Contents (Elt F))
    (G : (o.view.ty).Contents (Elt F)) (hG : o.view.read (Elt F) G = gathered base hb (a.view.read (Elt F) f) (t.view.read (Elt F) ft))
    (hin : ∀ x, (b.view.read (Elt F) (View.write (Elt F) b.view fb (ReadAs.same.apply ((numbers o1 h1 a).view.read (Elt F) f)) Finset.univ) x).toNat
        < S100000x128.size gathers_S100000x128_S256x128.axis)
    (hn : S256.numel = S256x128.size gathers_S100000x128_S256x128.axis') :
    ReadAs.same.apply (r.view.read (Elt F) (r.view.writes (Elt F) fr [⟨Rect.whole S256x128,
        SparseCore.gatherPayload (F := F) (e := .f32) gathers_S100000x128_S256x128 ((table t).view.read (Elt F) ft)
          (SparseCore.rows (F := F) (b.view.read (Elt F) (View.write (Elt F) b.view fb (ReadAs.same.apply ((numbers o1 h1 a).view.read (Elt F) f)) Finset.univ))
            hn hin)⟩]))
      = (block o2 h2 o).view.read (Elt F) G := by
  rw [View.read_writes_whole]
  funext x
  change t.view.read (Elt F) ft _ = o.view.read (Elt F) G ((Rect.unit (s := S8192x128) o2 S256x128.size h2).emb x)
  rw [hG]
  unfold gathered
  refine congrArg (t.view.read (Elt F) ft) (funext fun k => Fin.ext ?_)
  have hz : ∀ z : S256.Idx, (b.view.read (Elt F) (View.write (Elt F) b.view fb (ReadAs.same.apply ((numbers o1 h1 a).view.read (Elt F) f)) Finset.univ) z)
      = a.view.read (Elt F) f (ix1 ⟨o1 0 + (z 0).val, by
          have h : o1 0 + 256 ≤ 16384 := h1 0
          have h' : (z 0).val < 256 := (z 0).isLt
          omega⟩) := by
    intro z
    rw [View.read_write_univ]
    change a.view.read (Elt F) f ((Rect.unit (s := S16384) o1 S256.size h1).emb z) = _
    refine congrArg (a.view.read (Elt F) f) (funext fun q => Fin.ext ?_)
    match q with
    | ⟨0, _⟩ => exact (Rect.emb_apply _ _ _).trans (by simp)
  match k with
  | ⟨0, _⟩ =>
    have hx : (x 0).val < 256 := (x 0).isLt
    rw [Rect.emb_apply]
    change 0 + 1 * (gathers_S100000x128_S256x128.idx _ x gathers_S100000x128_S256x128.axis).val = _
    rw [Shape.Gathers.idx_axis, Nat.zero_add, Nat.one_mul]
    change (b.view.read (Elt F) _ (S256.rowMajor.symm _)).toNat = _
    rw [hz]
    have hr : ∀ k : Fin S256.numel, ((S256.rowMajor.symm k) 0).val = k.val := fun k => by
      rw [← Shape.rowMajor_val_one, Equiv.apply_symm_apply]
    have hq : (ix1 ⟨o1 0 + ((S256.rowMajor.symm ((x gathers_S100000x128_S256x128.axis').cast hn.symm)) 0).val, by
        rw [hr]; change o1 0 + (x 0).val < 16384; have h : o1 0 + 256 ≤ 16384 := h1 0; omega⟩ : S16384.Idx)
        = ix1 ⟨base + ((Rect.unit (s := S8192x128) o2 S256x128.size h2).emb x 0).val, by
            rw [Rect.emb_apply]; change base + (o2 0 + 1 * (x 0).val) < 16384; have h : o1 0 + 256 ≤ 16384 := h1 0; omega⟩ := by
      congr 2
      rw [hr, Rect.emb_apply]
      change o1 0 + (x 0).val = base + (o2 0 + 1 * (x 0).val)
      omega
    rw [hq]
    exact (Nat.mod_eq_of_lt (hf _)).symm
  | ⟨1, _⟩ =>
    rw [Rect.emb_apply]
    change 0 + 1 * (gathers_S100000x128_S256x128.idx _ x 1).val = ((Rect.unit (s := S8192x128) o2 S256x128.size h2).emb x 1).val
    rw [Shape.Gathers.idx_of_ne _ _ _ _ (by decide), Rect.emb_apply]
    change _ = o2 1 + 1 * (x 1).val
    rw [ho', Nat.zero_add, Nat.zero_add]
    rfl

set_option maxHeartbeats 4000000 in
/-- A task's run: from shares of the number arrays and the tables, its two blocks of the outputs and its own buffers and
    semaphores, it leaves in the blocks what an output that holds the gathered rows has there, and everything else as it
    was, but for the contents of its own buffers. `R` is whatever else is held. -/
theorem task_run (d : Dev nD) (q2 q3 q4 q5 : PosShare TreeShare)
    (f2 : Buf (Elt F) (a2.view.loc (V d c s))) (f3 : Buf (Elt F) (a3.view.loc (V d c s)))
    (f4 : Buf (Elt F) (a4.view.loc (V d c s))) (f5 : Buf (Elt F) (a5.view.loc (V d c s)))
    (f6 : Buf (Elt F) (a6.view.loc (V d c s))) (f7 : Buf (Elt F) (a7.view.loc (V d c s)))
    (f8 : Buf (Elt F) (a8.view.loc (V d c s))) (f9 : Buf (Elt F) (a9.view.loc (V d c s)))
    (f10 : Buf (Elt F) (a10.view.loc (V d c s))) (f11 : Buf (Elt F) (a11.view.loc (V d c s)))
    (base : ℕ) (hb : base + 8192 ≤ 16384) (ho : o1 0 = base + o2 0) (ho' : o2 1 = 0)
    (G6 : Buf (Elt F) (a6.view.loc (V d c s))) (G7 : Buf (Elt F) (a7.view.loc (V d c s)))
    (hu : ∀ j, (a2.view.read (Elt F) f2 j).toNat < 100000) (hi : ∀ j, (a3.view.read (Elt F) f3 j).toNat < 100000)
    (hG6 : a6.view.read (Elt F) G6 = gathered base hb (a2.view.read (Elt F) f2) (a4.view.read (Elt F) f4))
    (hG7 : a7.view.read (Elt F) G7 = gathered base hb (a3.view.read (Elt F) f3) (a5.view.read (Elt F) f5))
    (O : CellTallies nD τ sig (HIx 2)) (W : Waits sig (HIx 2)) (R : sProp 𝕄) :
    (iprop(Transfers.MayWaits (V d c s) (default : HIx 2) O
        ∗ (a2.view.loc (V d c s) ↦{q2} f2) ∗ (a3.view.loc (V d c s) ↦{q3} f3)
        ∗ (a4.view.loc (V d c s) ↦{q4} f4) ∗ (a5.view.loc (V d c s) ↦{q5} f5)
        ∗ ((block o2 h2 a6).view.loc (V d c s) ↦[(block o2 h2 a6).view.set]{fullShare} f6)
        ∗ ((block o2 h2 a7).view.loc (V d c s) ↦[(block o2 h2 a7).view.set]{fullShare} f7)
        ∗ (a8.view.loc (V d c s) ↦{fullShare} f8) ∗ (a9.view.loc (V d c s) ↦{fullShare} f9)
        ∗ (a10.view.loc (V d c s) ↦{fullShare} f10) ∗ (a11.view.loc (V d c s) ↦{fullShare} f11)
        ∗ semVal (V d c s, SemLoc.dma e0) 0 ∗ semVal (V d c s, SemLoc.dma e1) 0
        ∗ semVal (V d c s, SemLoc.dma g0) 0 ∗ semVal (V d c s, SemLoc.dma g1) 0
        ∗ semVal (V d c s, SemLoc.dma g2) 0 ∗ semVal (V d c s, SemLoc.dma g3) 0
        ∗ owes (V d c s) O W ∗ R) : sProp 𝕄)
      ⊢ wp frame (wpE (defs₀ (F := F)) 𝒱₀ (V d c s) none) Set.univ
          (task c s o1 h1 o2 h2 a2 a3 a4 a5 a6 a7 a8 h8 a9 h9 a10 h10 a11 h11 g0 g1 g2 g3 e0 e1)
          fun _ => iprop((a2.view.loc (V d c s) ↦{q2} f2) ∗ (a3.view.loc (V d c s) ↦{q3} f3)
            ∗ (a4.view.loc (V d c s) ↦{q4} f4) ∗ (a5.view.loc (V d c s) ↦{q5} f5)
            ∗ ((block o2 h2 a6).view.loc (V d c s) ↦[(block o2 h2 a6).view.set]{fullShare} G6)
            ∗ ((block o2 h2 a7).view.loc (V d c s) ↦[(block o2 h2 a7).view.set]{fullShare} G7)
            ∗ (∃ f, a8.view.loc (V d c s) ↦{fullShare} f) ∗ (∃ f, a9.view.loc (V d c s) ↦{fullShare} f)
            ∗ (∃ f, a10.view.loc (V d c s) ↦{fullShare} f) ∗ (∃ f, a11.view.loc (V d c s) ↦{fullShare} f)
            ∗ semVal (V d c s, SemLoc.dma e0) 0 ∗ semVal (V d c s, SemLoc.dma e1) 0
            ∗ semVal (V d c s, SemLoc.dma g0) 0 ∗ semVal (V d c s, SemLoc.dma g1) 0
            ∗ semVal (V d c s, SemLoc.dma g2) 0 ∗ semVal (V d c s, SemLoc.dma g3) 0
            ∗ R ∗ ∃ W', ⌜∀ p ∈ W', p ∈ W ∨ p.2 = none⌝ ∗ owes (V d c s) O W') := by
  have hu' := list_inb o1 h1 a2 a8 f2 hu
  have hi' := list_inb o1 h1 a3 a9 f3 hi
  unfold task
  iintro ⟨#Hmw, H2, H3, H4, H5, H6, H7, H8, H9, H10, H11, Se0, Se1, Sg0, Sg1, Sg2, Sg3, HO, HR⟩
  sl_exec
  sl_step
  have e6 : (View.loc (V d c s) (block o2 h2 a6).view ↦[(block o2 h2 a6).view.set]{fullShare}
      (block o2 h2 a6).view.writes (Elt F) f6 [⟨Rect.whole S256x128, task_run.sl.dma0_2 c s o1 h1 a2 a4 a8 a10 d f2 f4 f8 f10 hu'⟩] : sProp 𝕄)
      = (View.loc (V d c s) (block o2 h2 a6).view ↦[(block o2 h2 a6).view.set]{fullShare} G6) :=
    pointsTo_congr (eq_of_read _ _ _ ((View.read_writes_whole _ _ _).trans
      (block_read o1 h1 o2 h2 base hb ho ho' a2 a4 a8 a10 a6 f2 hu f4 f8 f10 G6 hG6 (hu' f8) rfl)))
  have e7 : (View.loc (V d c s) (block o2 h2 a7).view ↦[(block o2 h2 a7).view.set]{fullShare}
      (block o2 h2 a7).view.writes (Elt F) f7 [⟨Rect.whole S256x128, task_run.sl.dma0_3 c s o1 h1 a3 a5 a9 a11 d f3 f5 f9 f11 hi'⟩] : sProp 𝕄)
      = (View.loc (V d c s) (block o2 h2 a7).view ↦[(block o2 h2 a7).view.set]{fullShare} G7) :=
    pointsTo_congr (eq_of_read _ _ _ ((View.read_writes_whole _ _ _).trans
      (block_read o1 h1 o2 h2 base hb ho ho' a3 a5 a9 a11 a7 f3 hi f5 f9 f11 G7 hG7 (hi' f9) rfl)))
  ihave H6 := (Entails.of_eq e6) $$ H6
  ihave H7 := (Entails.of_eq e7) $$ H7
  iframe HR H2 H3 H4 H5 H6 H7 Se0 Se1 Sg0 Sg1 Sg2 Sg3
  isplitl [H8]
  · iexists _; iexact H8
  isplitl [H9]
  · iexists _; iexact H9
  isplitl [H10]
  · iexists _; iexact H10
  isplitl [H11]
  · iexists _; iexact H11
  iexists _
  isplitr
  rotate_left
  · iexact HO
  · ipureintro
    intro p hp
    simp only [Finset.mem_insert] at hp
    rcases hp with rfl | rfl | rfl | rfl | rfl | rfl | hp
    all_goals first | exact Or.inr rfl | exact Or.inl hp

end Task

end Cert.Proof.Recommender

end
-- ==== Proof.Calls.lean ====
/-
  The two SparseCore calls: what each hands to its tiles and gets back.

  A call has 32 tiles, two SparseCores of sixteen. Every tile reads the two number arrays and the two tables, so each
  is handed a share of all four; each tile owns 256 rows of the call's two outputs. A call hands the outputs out at
  their launch contents and gets them back holding the gathered rows. Both calls' tiles run the task of `Tile`.
-/
module

public import proofs.«01_k».proof.Proof.Tile

@[expose] public section

noncomputable section

namespace Cert.Proof.Recommender

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs_of_owner)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

/-- An array of device `d`, as its TensorCore names it. -/
abbrev tl (d : Dev nD) (b : Ref sig .tc) : Loc nD τ sig := (SparseCore.T d).loc b

/-! ## The tiles' parts -/

/-- The share of an array that every tile reads which tile `(c, i)` holds. -/
abbrev tq (c : Fin 2) (i : Fin 16) : PosShare TreeShare := dealOf (dealOf fullShare Finset.univ c) Finset.univ i

/-- The rows of an output that tile `(c, i)` owns: block number `2 i + c` of 256. -/
def rowsOf (c : Fin 2) (i : Fin 16) : Finset S8192x128.Idx := Finset.univ.filter fun y => (y 0).val / 256 = 2 * i.val + c.val

theorem nC_eq : ∀ q, (K (F := F)).nCore q = 2 := fun q => match q with | 0 => rfl | 1 => rfl
theorem nS_eq : ∀ q, (K (F := F)).nSub q = 16 := fun q => match q with | 0 => rfl | 1 => rfl

variable (m : (ℓ : Loc nD τ sig) → Buf (Elt F) ℓ)

/-- Tile `(c, i)`'s shares of the number arrays and the tables. -/
abbrev inputs (d : Dev nD) (c : Fin 2) (i : Fin 16) : sProp 𝕄 :=
  iprop((tl d main_arg0 ↦{tq c i} m (tl d main_arg0)) ∗ (tl d main_arg1 ↦{tq c i} m (tl d main_arg1))
    ∗ (tl d main_arg2 ↦{tq c i} m (tl d main_arg2)) ∗ (tl d main_arg3 ↦{tq c i} m (tl d main_arg3)))

/-- Tile `(c, i)`'s rows of the first call's outputs, at contents `f` and `g`, -/
abbrev outs0 (d : Dev nD) (c : Fin 2) (i : Fin 16) (f g : S8192x128.Idx → F .f32) : sProp 𝕄 :=
  iprop((tl d main_v11_0 ↦[rowsOf c i]{fullShare} (f : Buf (Elt F) (tl d main_v11_0)))
    ∗ (tl d main_v11_1 ↦[rowsOf c i]{fullShare} (g : Buf (Elt F) (tl d main_v11_1))))
/-- and of the second call's. -/
abbrev outs1 (d : Dev nD) (c : Fin 2) (i : Fin 16) (f g : S8192x128.Idx → F .f32) : sProp 𝕄 :=
  iprop((tl d main_v12_0 ↦[rowsOf c i]{fullShare} (f : Buf (Elt F) (tl d main_v12_0)))
    ∗ (tl d main_v12_1 ↦[rowsOf c i]{fullShare} (g : Buf (Elt F) (tl d main_v12_1))))

/-- The user rows that the numbers from position `base` on name, -/
abbrev users (d : Dev nD) (base : ℕ) (hb : base + 8192 ≤ 16384) : S8192x128.Idx → F .f32 :=
  gathered base hb (m (tl d main_arg0)) (m (tl d main_arg2))
/-- and the item rows. -/
abbrev items (d : Dev nD) (base : ℕ) (hb : base + 8192 ≤ 16384) : S8192x128.Idx → F .f32 :=
  gathered base hb (m (tl d main_arg1)) (m (tl d main_arg3))

/-- What tile `(c, i)` of call `q` is handed, -/
def goes (q : Fin 2) (d : Dev nD) (c : Fin 2) (i : Fin 16) : sProp 𝕄 :=
  match q with
  | 0 => iprop(inputs m d c i ∗ outs0 d c i (m (tl d main_v11_0)) (m (tl d main_v11_1)))
  | 1 => iprop(inputs m d c i ∗ outs1 d c i (m (tl d main_v12_0)) (m (tl d main_v12_1)))
/-- and what it hands back. -/
def backs (q : Fin 2) (d : Dev nD) (c : Fin 2) (i : Fin 16) : sProp 𝕄 :=
  match q with
  | 0 => iprop(inputs m d c i ∗ outs0 d c i (users m d 0 (by norm_num)) (items m d 0 (by norm_num)))
  | 1 => iprop(inputs m d c i ∗ outs1 d c i (users m d 8192 (by norm_num)) (items m d 8192 (by norm_num)))

instance goes_storable (q : Fin 2) (d : Dev nD) (c : Fin 2) (i : Fin 16) : BI.Storable (upEmb : UEmb _ 𝕄) (goes m q d c i) := by
  unfold goes; split <;> infer_instance
instance backs_storable (q : Fin 2) (d : Dev nD) (c : Fin 2) (i : Fin 16) : BI.Storable (upEmb : UEmb _ 𝕄) (backs m q d c i) := by
  unfold backs; split <;> infer_instance

/-- What the handshakes of the two calls carry. -/
def P : (K (F := F)).Pay (nD := nD) (Val := Elt F) (Name := ℕ) (U := UU) where
  st := fun q d c => bigSep Finset.univ fun i : Fin ((K (F := F)).nSub q) => goes m q d (c.cast (nC_eq q)) (i.cast (nS_eq q))
  dn := fun q d c => bigSep Finset.univ fun i : Fin ((K (F := F)).nSub q) => backs m q d (c.cast (nC_eq q)) (i.cast (nS_eq q))
  go := fun q d c i => goes m q d (c.cast (nC_eq q)) (i.cast (nS_eq q))
  td := fun q d c i => backs m q d (c.cast (nC_eq q)) (i.cast (nS_eq q))
  x := fun _ _ => iprop(emp)

instance P_storable : (P (F := F) m).IsStorable where
  st q d c := (inferInstance : BI.Storable (upEmb : UEmb _ 𝕄)
    (bigSep Finset.univ fun i : Fin ((K (F := F)).nSub q) => goes m q d (c.cast (nC_eq q)) (i.cast (nS_eq q))))
  dn q d c := (inferInstance : BI.Storable (upEmb : UEmb _ 𝕄)
    (bigSep Finset.univ fun i : Fin ((K (F := F)).nSub q) => backs m q d (c.cast (nC_eq q)) (i.cast (nS_eq q))))
  go q d c i := goes_storable m q d _ _
  td q d c i := backs_storable m q d _ _

/-- A SparseCore's part of a call is its tiles' parts. -/
theorem vecSplit (q : Fin 2) : (K (F := F)).VecSplit' (P m) q := by
  intro d c
  change (bigSep Finset.univ fun i : Fin ((K (F := F)).nSub q) => goes m q d (c.cast (nC_eq q)) (i.cast (nS_eq q))) ⊢ |={Set.univ}=> iprop(
    (bigSep Finset.univ fun i : Fin ((K (F := F)).nSub q) => goes m q d (c.cast (nC_eq q)) (i.cast (nS_eq q)))
      ∗ ((bigSep Finset.univ fun i : Fin ((K (F := F)).nSub q) => backs m q d (c.cast (nC_eq q)) (i.cast (nS_eq q)))
        -∗ (bigSep Finset.univ fun i : Fin ((K (F := F)).nSub q) => backs m q d (c.cast (nC_eq q)) (i.cast (nS_eq q)))))
  iintro H
  imodintro
  isplitl [H]; · iexact H
  iintro H
  iexact H

/-! ## A tile's own memory -/

/-- Six of a tile's semaphores, taken out of all of them. -/
theorem sems_six (d : Dev nD) (c : Fin τ.nSC) (s : Fin τ.nSub) (e0 e1 g0 g1 g2 g3 : DmaSem sig)
    (hs : ∀ x ∈ [e0, e1, g0, g1, g2, g3], (SemLoc.dma x : SemLoc sig).isScoped .scVector = true) (hn : [e0, e1, g0, g1, g2, g3].Nodup) :
    ∃ R : sProp 𝕄, (ownSems0 (V d c s) : sProp 𝕄)
      = iprop(semVal (V d c s, SemLoc.dma e0) 0 ∗ semVal (V d c s, SemLoc.dma e1) 0 ∗ semVal (V d c s, SemLoc.dma g0) 0
          ∗ semVal (V d c s, SemLoc.dma g1) 0 ∗ semVal (V d c s, SemLoc.dma g2) 0 ∗ semVal (V d c s, SemLoc.dma g3) 0 ∗ R) := by
  have hm : ∀ x ∈ [e0, e1, g0, g1, g2, g3], ((V d c s, SemLoc.dma x) : GSem nD τ sig) ∈ ownCells (V d c s) :=
    fun x hx => mem_ownCells.mpr ⟨rfl, hs x hx⟩
  have hne : ∀ x y : DmaSem sig, x ≠ y → ((V d c s, SemLoc.dma x) : GSem nD τ sig) ≠ (V d c s, SemLoc.dma y) :=
    fun x y h e => h (SemLoc.dma.inj (Prod.mk.inj e).2)
  simp only [List.mem_cons, List.not_mem_nil, or_false, forall_eq_or_imp, forall_eq, List.nodup_cons, not_or, not_false_eq_true,
    List.nodup_nil, and_true] at hm hn
  obtain ⟨m0, m1, m2, m3, m4, m5⟩ := hm
  obtain ⟨⟨n01, n02, n03, n04, n05⟩, ⟨n12, n13, n14, n15⟩, ⟨n23, n24, n25⟩, ⟨n34, n35⟩, n45⟩ := hn
  unfold SparseCore.Cfg.ownSems0
  rw [SparseCore.bigSep_erase' m0,
    SparseCore.bigSep_erase' (Finset.mem_erase.mpr ⟨(hne _ _ n01).symm, m1⟩),
    SparseCore.bigSep_erase' (Finset.mem_erase.mpr ⟨(hne _ _ n12).symm, Finset.mem_erase.mpr ⟨(hne _ _ n02).symm, m2⟩⟩),
    SparseCore.bigSep_erase' (Finset.mem_erase.mpr ⟨(hne _ _ n23).symm, Finset.mem_erase.mpr ⟨(hne _ _ n13).symm,
      Finset.mem_erase.mpr ⟨(hne _ _ n03).symm, m3⟩⟩⟩),
    SparseCore.bigSep_erase' (Finset.mem_erase.mpr ⟨(hne _ _ n34).symm, Finset.mem_erase.mpr ⟨(hne _ _ n24).symm,
      Finset.mem_erase.mpr ⟨(hne _ _ n14).symm, Finset.mem_erase.mpr ⟨(hne _ _ n04).symm, m4⟩⟩⟩⟩),
    SparseCore.bigSep_erase' (Finset.mem_erase.mpr ⟨(hne _ _ n45).symm, Finset.mem_erase.mpr ⟨(hne _ _ n35).symm,
      Finset.mem_erase.mpr ⟨(hne _ _ n25).symm, Finset.mem_erase.mpr ⟨(hne _ _ n15).symm, Finset.mem_erase.mpr ⟨(hne _ _ n05).symm, m5⟩⟩⟩⟩⟩)]
  exact ⟨_, rfl⟩

/-- Four of a tile's buffers, taken out of all of them. -/
theorem bufs_four (d : Dev nD) (c : Fin τ.nSC) (s : Fin τ.nSub) (b0 b1 b2 b3 : Ref sig .scVector)
    (hs : ∀ x ∈ [b0, b1, b2, b3], ((Proc.scVector c s).devRef x).owner = .proc (.scVector c s)) (hn : [b0, b1, b2, b3].Nodup) :
    ∃ R : sProp 𝕄, (ownBufs (V d c s) : sProp 𝕄)
      = iprop((∃ f, (V d c s).loc b0 ↦{fullShare} f) ∗ (∃ f, (V d c s).loc b1 ↦{fullShare} f)
          ∗ (∃ f, (V d c s).loc b2 ↦{fullShare} f) ∗ (∃ f, (V d c s).loc b3 ↦{fullShare} f) ∗ R) := by
  have hm : ∀ x ∈ [b0, b1, b2, b3], (Proc.scVector c s).devRef x ∈ ownRefs (τ := τ) (.scVector c s) :=
    fun x hx => mem_ownRefs_of_owner (hs x hx)
  have hne : ∀ x y : Ref sig .scVector, x ≠ y → (Proc.scVector c s).devRef x ≠ (Proc.scVector c s).devRef y :=
    fun x y h e => h (Proc.devRef_injective _ e)
  simp only [List.mem_cons, List.not_mem_nil, or_false, forall_eq_or_imp, forall_eq, List.nodup_cons, not_or, not_false_eq_true,
    List.nodup_nil, and_true] at hm hn
  obtain ⟨m0, m1, m2, m3⟩ := hm
  obtain ⟨⟨n01, n02, n03⟩, ⟨n12, n13⟩, n23⟩ := hn
  unfold SparseCore.Cfg.ownBufs
  rw [show ((V d c s).2 : Proc τ) = Proc.scVector c s from rfl,
    SparseCore.bigSep_erase' m0,
    SparseCore.bigSep_erase' (Finset.mem_erase.mpr ⟨(hne _ _ n01).symm, m1⟩),
    SparseCore.bigSep_erase' (Finset.mem_erase.mpr ⟨(hne _ _ n12).symm, Finset.mem_erase.mpr ⟨(hne _ _ n02).symm, m2⟩⟩),
    SparseCore.bigSep_erase' (Finset.mem_erase.mpr ⟨(hne _ _ n23).symm, Finset.mem_erase.mpr ⟨(hne _ _ n13).symm,
      Finset.mem_erase.mpr ⟨(hne _ _ n03).symm, m3⟩⟩⟩)]
  exact ⟨_, rfl⟩

/-! ## The tiles' obligations -/

/-- The rows of an output that the task at offset `o2` writes are tile `(c, i)`'s. -/
theorem block_set (o2 : Fin 2 → ℕ) (h2 : ∀ a, o2 a + S256x128.size a ≤ S8192x128.size a) (c : Fin 2) (i : Fin 16)
    (ho : o2 = ![512 * i.val + 256 * c.val, 0]) : (Rect.unit (s := S8192x128) o2 S256x128.size h2).set = rowsOf c i := by
  subst ho
  ext y
  have hy : (y 1).val < 128 := (y 1).isLt
  rw [Rect.mem_set_unit, rowsOf, Finset.mem_filter, Fin.forall_fin_two]
  change ((512 * i.val + 256 * c.val ≤ (y 0).val ∧ (y 0).val < 512 * i.val + 256 * c.val + 256) ∧ (0 ≤ (y 1).val ∧ (y 1).val < 0 + 128)) ↔ _
  simp only [Finset.mem_univ, true_and]
  omega

/-- What a tile's numbers must satisfy: each names a row of its table. -/
def InRange : Prop := ∀ (d : Dev nD) (j : S16384.Idx),
  (m (tl d main_arg0) j : BitVec 32).toNat < 100000 ∧ (m (tl d main_arg1) j : BitVec 32).toNat < 100000

section Body

variable [FloatOps F]

/-- The task's outcome, grouped as the call's exit wants it. -/
theorem tile_post {thr : Thread nD τ} {A2 A3 A4 A5 A6 A7 A8 A9 A10 A11 B0 B1 B2 B3 B4 B5 R R' : sProp 𝕄}
    {O : CellTallies nD τ sig (HIx 2)} {W : Waits sig (HIx 2)} {q : Fin 2} :
    iprop(A2 ∗ A3 ∗ A4 ∗ A5 ∗ A6 ∗ A7 ∗ A8 ∗ A9 ∗ A10 ∗ A11 ∗ B0 ∗ B1 ∗ B2 ∗ B3 ∗ B4 ∗ B5 ∗ (R ∗ R')
        ∗ ∃ W', ⌜∀ p ∈ W', p ∈ W ∨ p.2 = none⌝ ∗ owes thr O W')
      ⊢ iprop(((A2 ∗ A3 ∗ A4 ∗ A5) ∗ A6 ∗ A7) ∗ (A8 ∗ A9 ∗ A10 ∗ A11 ∗ R) ∗ (B0 ∗ B1 ∗ B2 ∗ B3 ∗ B4 ∗ B5 ∗ R')
        ∗ ∃ W', ⌜∀ p ∈ W', p ∈ W ∨ p.2 = none ∨ p.2 = some q⌝ ∗ owes thr O W') := by
  iintro ⟨H2, H3, H4, H5, H6, H7, H8, H9, H10, H11, S0, S1, S2, S3, S4, S5, ⟨HR, HR'⟩, %W', %hW', HO⟩
  iframe H2 H3 H4 H5 H6 H7 H8 H9 H10 H11 S0 S1 S2 S3 S4 S5 HR HR'
  iexists W'
  iframe HO
  ipureintro
  exact fun p hp => (hW' p hp).imp_right Or.inl

/-- A tile of call `q`, whatever its own buffers and semaphores, from what it is handed to what it hands back. The
    call's outputs are `r6` and `r7`, its numbers start at `base`. -/
theorem tile_body (hF : (K (F := F)).Facts) (d : Dev nD) (c : Fin τ.nSC) (s : Fin τ.nSub)
    (o1 : Fin 1 → ℕ) (h1 : ∀ a, o1 a + S256.size a ≤ S16384.size a)
    (o2 : Fin 2 → ℕ) (h2 : ∀ a, o2 a + S256x128.size a ≤ S8192x128.size a)
    (a2 a3 : Memref sig .scVector .hbm S16384 .i32) (a4 a5 : Memref sig .scVector .hbm S100000x128 .f32)
    (a6 a7 : Memref sig .scVector .hbm S8192x128 .f32)
    (a8 : Memref sig .scVector .vmem S256 .i32) (h8 : a8.IsWhole) (a9 : Memref sig .scVector .vmem S256 .i32) (h9 : a9.IsWhole)
    (a10 : Memref sig .scVector .vmem S256x128 .f32) (h10 : a10.IsWhole) (a11 : Memref sig .scVector .vmem S256x128 .f32) (h11 : a11.IsWhole)
    (g0 g1 g2 g3 e0 e1 : DmaSem sig) (q2 q3 q4 q5 : PosShare TreeShare)
    (f2 : Buf (Elt F) (a2.view.loc (V d c s))) (f3 : Buf (Elt F) (a3.view.loc (V d c s)))
    (f4 : Buf (Elt F) (a4.view.loc (V d c s))) (f5 : Buf (Elt F) (a5.view.loc (V d c s)))
    (f6 : Buf (Elt F) (a6.view.loc (V d c s))) (f7 : Buf (Elt F) (a7.view.loc (V d c s)))
    (base : ℕ) (hb : base + 8192 ≤ 16384) (ho : o1 0 = base + o2 0) (ho' : o2 1 = 0)
    (G6 : Buf (Elt F) (a6.view.loc (V d c s))) (G7 : Buf (Elt F) (a7.view.loc (V d c s)))
    (hu : ∀ j, (a2.view.read (Elt F) f2 j).toNat < 100000) (hi : ∀ j, (a3.view.read (Elt F) f3 j).toNat < 100000)
    (hG6 : a6.view.read (Elt F) G6 = gathered base hb (a2.view.read (Elt F) f2) (a4.view.read (Elt F) f4))
    (hG7 : a7.view.read (Elt F) G7 = gathered base hb (a3.view.read (Elt F) f3) (a5.view.read (Elt F) f5))
    (R : sProp 𝕄) (hR : (ownBufs (V d c s) : sProp 𝕄)
      = iprop((∃ f, a8.view.loc (V d c s) ↦{fullShare} f) ∗ (∃ f, a9.view.loc (V d c s) ↦{fullShare} f)
          ∗ (∃ f, a10.view.loc (V d c s) ↦{fullShare} f) ∗ (∃ f, a11.view.loc (V d c s) ↦{fullShare} f) ∗ R))
    (R' : sProp 𝕄) (hR' : (ownSems0 (V d c s) : sProp 𝕄)
      = iprop(semVal (V d c s, SemLoc.dma e0) 0 ∗ semVal (V d c s, SemLoc.dma e1) 0 ∗ semVal (V d c s, SemLoc.dma g0) 0
          ∗ semVal (V d c s, SemLoc.dma g1) 0 ∗ semVal (V d c s, SemLoc.dma g2) 0 ∗ semVal (V d c s, SemLoc.dma g3) 0 ∗ R'))
    (O : CellTallies nD τ sig (HIx 2)) (W : Waits sig (HIx 2)) (hO : ∀ g, O g none = 0) (q : Fin 2) :
    (iprop(levAts (K (F := F)).L (K (F := F)).lev ∗ emp
        ∗ (((a2.view.loc (V d c s) ↦{q2} f2) ∗ (a3.view.loc (V d c s) ↦{q3} f3)
            ∗ (a4.view.loc (V d c s) ↦{q4} f4) ∗ (a5.view.loc (V d c s) ↦{q5} f5))
          ∗ (((block o2 h2 a6).view.loc (V d c s) ↦[(block o2 h2 a6).view.set]{fullShare} f6)
            ∗ ((block o2 h2 a7).view.loc (V d c s) ↦[(block o2 h2 a7).view.set]{fullShare} f7)))
        ∗ scopedBufs (V d c s) ∗ scopedSems0 (V d c s) ∗ owes (V d c s) O W) : sProp 𝕄)
      ⊢ wp frame (wpE (defs₀ (F := F)) 𝒱₀ (V d c s) none) Set.univ
          (task c s o1 h1 o2 h2 a2 a3 a4 a5 a6 a7 a8 h8 a9 h9 a10 h10 a11 h11 g0 g1 g2 g3 e0 e1)
          fun _ => iprop((((a2.view.loc (V d c s) ↦{q2} f2) ∗ (a3.view.loc (V d c s) ↦{q3} f3)
              ∗ (a4.view.loc (V d c s) ↦{q4} f4) ∗ (a5.view.loc (V d c s) ↦{q5} f5))
            ∗ (((block o2 h2 a6).view.loc (V d c s) ↦[(block o2 h2 a6).view.set]{fullShare} G6)
              ∗ ((block o2 h2 a7).view.loc (V d c s) ↦[(block o2 h2 a7).view.set]{fullShare} G7)))
            ∗ scopedBufs (V d c s) ∗ scopedSems0 (V d c s)
            ∗ ∃ W', ⌜∀ p ∈ W', p ∈ W ∨ p.2 = none ∨ p.2 = some q⌝ ∗ owes (V d c s) O W') := by
  rw [(K (F := F)).scopedBufs_V hF d c s, SparseCore.Cfg.scopedSems0_V (Val := Elt F) d c s, hR, hR']
  iintro ⟨#Hlv, -, ⟨⟨H2, H3, H4, H5⟩, H6, H7⟩, ⟨⟨%f8, H8⟩, ⟨%f9, H9⟩, ⟨%f10, H10⟩, ⟨%f11, H11⟩, HR⟩, ⟨S0, S1, S2, S3, S4, S5, HR'⟩, HO⟩
  ihave Hmw := (show levAts (K (F := F)).L (K (F := F)).lev ⊢ Transfers.MayWaits (V d c s) (default : HIx 2) O from
    (K (F := F)).mayWaits_none (thr := V d c s) hO) $$ Hlv
  have hw := task_run c s o1 h1 o2 h2 a2 a3 a4 a5 a6 a7 a8 h8 a9 h9 a10 h10 a11 h11 g0 g1 g2 g3 e0 e1
      d q2 q3 q4 q5 f2 f3 f4 f5 f6 f7 f8 f9 f10 f11 base hb ho ho' G6 G7 hu hi hG6 hG7 O W iprop(R ∗ R')
  iapply (hw.trans (wp_mono frame _ _ fun _ => tile_post)) $$ [Hmw H2 H3 H4 H5 H6 H7 H8 H9 H10 H11 S0 S1 S2 S3 S4 S5 HO HR HR']
  iframe HR HR' Hmw H2 H3 H4 H5 H6 H7 H8 H9 H10 H11 S0 S1 S2 S3 S4 S5 HO

end Body

end Cert.Proof.Recommender

end
-- ==== Proof.Tiles.lean ====
/-
  Each SparseCore call's tiles do what the call's handshake asks of them.

  The printed kernel of each call is the task of `Tile` at that call's offsets, outputs, buffers and semaphores; its run
  is `tile_body`. The tile at SparseCore `c`, subcore `s` works at offset `512 s + 256 c` of its outputs.
-/
module

public import proofs.«01_k».proof.Proof.Calls

@[expose] public section

noncomputable section

namespace Cert.Proof.Recommender

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs_of_owner)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable (m : (ℓ : Loc nD τ sig) → Buf (Elt F) ℓ) [FloatOps F]

/-! ## Call 0 -/

/-- The coordinates of a tile in call 0's grid. -/
def coords0 (c : Fin (grid0.bound 0)) (s : Fin (grid0.bound 1)) : grid0.Coords :=
  fun | 0 => c | 1 => s | ⟨_ + 2, h⟩ => absurd h (Nat.not_lt.2 (Nat.le_add_left _ _))

/-- Call 0's tile runs the task. -/
theorem vector0 (c : Fin τ.nSC) (s : Fin τ.nSub) :
    defs₀ (F := F) (.scVector c s) 0 ()
      = SparseCore.onTile hcore0 hsub0 (fun c s => task (c.castLE hcore0) (s.castLE hsub0)
          (k0_off1 (coords0 c s)) (k0_off1_inb (coords0 c s)) (k0_off2 (coords0 c s)) (k0_off2_inb (coords0 c s))
          (Memref.whole main_arg0_scv) (Memref.whole main_arg1_scv) (Memref.whole main_arg2_scv) (Memref.whole main_arg3_scv)
          (Memref.whole main_v11_0_scv) (Memref.whole main_v11_1_scv)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4.sem cc0_scratch5.sem cc0_scratch6.sem cc0_scratch7.sem cc0_scoped0.sem cc0_scoped1.sem) ⟨⟩ c s := rfl

theorem goes0_eq (d : Dev nD) (c : Fin 2) (s : Fin 16) (h2 : ∀ a, (k0_off2 (coords0 c s)) a + S256x128.size a ≤ S8192x128.size a)
    (f g : S8192x128.Idx → F .f32) :
    (iprop(inputs m d c s ∗ outs0 d c s f g) : sProp 𝕄)
      = iprop((((Memref.whole main_arg0_scv).view.loc (V d (c.castLE hcore0) (s.castLE hsub0)) ↦{tq c s} m (tl d main_arg0))
          ∗ ((Memref.whole main_arg1_scv).view.loc (V d (c.castLE hcore0) (s.castLE hsub0)) ↦{tq c s} m (tl d main_arg1))
          ∗ ((Memref.whole main_arg2_scv).view.loc (V d (c.castLE hcore0) (s.castLE hsub0)) ↦{tq c s} m (tl d main_arg2))
          ∗ ((Memref.whole main_arg3_scv).view.loc (V d (c.castLE hcore0) (s.castLE hsub0)) ↦{tq c s} m (tl d main_arg3)))
        ∗ ((block (k0_off2 (coords0 c s)) h2 (Memref.whole main_v11_0_scv)).view.loc (V d (c.castLE hcore0) (s.castLE hsub0))
            ↦[(block (k0_off2 (coords0 c s)) h2 (Memref.whole main_v11_0_scv)).view.set]{fullShare} f)
        ∗ ((block (k0_off2 (coords0 c s)) h2 (Memref.whole main_v11_1_scv)).view.loc (V d (c.castLE hcore0) (s.castLE hsub0))
            ↦[(block (k0_off2 (coords0 c s)) h2 (Memref.whole main_v11_1_scv)).view.set]{fullShare} g)) := by
  have hs := block_set _ h2 c s (k0_off2_eq (coords0 c s))
  have e0 : (block (k0_off2 (coords0 c s)) h2 (Memref.whole main_v11_0_scv)).view.set = rowsOf c s := by
    rw [← hs]; show ((View.whole (main_v11_0_scv : Ref sig .scVector)).slice _).set = _
    rw [View.set_slice]; exact Finset.map_refl
  have e1 : (block (k0_off2 (coords0 c s)) h2 (Memref.whole main_v11_1_scv)).view.set = rowsOf c s := by
    rw [← hs]; show ((View.whole (main_v11_1_scv : Ref sig .scVector)).slice _).set = _
    rw [View.set_slice]; exact Finset.map_refl
  rw [e0, e1]

set_option maxRecDepth 16384 in
/-- Every tile of call 0, handed its part, hands it back with its rows gathered. -/
theorem tileObl0 (hF : (K (F := F)).Facts) (hr : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [vector0]; simp only [SparseCore.onTile, hci, and_self, ↓reduceDIte]
  change iprop(levAts (K (F := F)).L (K (F := F)).lev ∗ emp ∗ (inputs m d c i ∗ outs0 d c i (m (tl d main_v11_0)) (m (tl d main_v11_1)))
      ∗ scopedBufs (V d (Fin.castLE hcore0 c) (Fin.castLE hsub0 i)) ∗ scopedSems0 (V d (Fin.castLE hcore0 c) (Fin.castLE hsub0 i))
      ∗ owes (V d (Fin.castLE hcore0 c) (Fin.castLE hsub0 i)) O W)
    ⊢ wp frame _ Set.univ _ fun _ => iprop((inputs m d c i ∗ outs0 d c i (users m d 0 (by norm_num)) (items m d 0 (by norm_num)))
      ∗ scopedBufs (V d (Fin.castLE hcore0 c) (Fin.castLE hsub0 i)) ∗ scopedSems0 (V d (Fin.castLE hcore0 c) (Fin.castLE hsub0 i))
      ∗ ∃ W', ⌜∀ p ∈ W', p ∈ W ∨ p.2 = none ∨ p.2 = some 0⌝ ∗ owes (V d (Fin.castLE hcore0 c) (Fin.castLE hsub0 i)) O W')
  obtain ⟨R, hR⟩ := bufs_four (F := F) d (Fin.castLE hcore0 c) (Fin.castLE hsub0 i) cc0_scratch0 cc0_scratch1 cc0_scratch2 cc0_scratch3
    (by intro x hx; fin_cases hx <;> rfl) (by decide)
  obtain ⟨R', hR'⟩ := sems_six (F := F) d (Fin.castLE hcore0 c) (Fin.castLE hsub0 i) cc0_scoped0.sem cc0_scoped1.sem
    cc0_scratch4.sem cc0_scratch5.sem cc0_scratch6.sem cc0_scratch7.sem (by decide) (by decide)
  rw [goes0_eq m d c i (k0_off2_inb (coords0 c i)), goes0_eq m d c i (k0_off2_inb (coords0 c i))]
  exact tile_body hF d (Fin.castLE hcore0 c) (Fin.castLE hsub0 i)
    (k0_off1 (coords0 c i)) (k0_off1_inb (coords0 c i)) (k0_off2 (coords0 c i)) (k0_off2_inb (coords0 c i))
    (Memref.whole main_arg0_scv) (Memref.whole main_arg1_scv) (Memref.whole main_arg2_scv) (Memref.whole main_arg3_scv)
    (Memref.whole main_v11_0_scv) (Memref.whole main_v11_1_scv)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4.sem cc0_scratch5.sem cc0_scratch6.sem cc0_scratch7.sem cc0_scoped0.sem cc0_scoped1.sem
    (tq c i) (tq c i) (tq c i) (tq c i) (m (tl d main_arg0)) (m (tl d main_arg1)) (m (tl d main_arg2)) (m (tl d main_arg3))
    (m (tl d main_v11_0)) (m (tl d main_v11_1)) 0 (by norm_num)
    (by rw [k0_off1_eq, k0_off2_eq]; simp [Nat.add_comm]) (by rw [k0_off2_eq]; rfl)
    (users m d 0 (by norm_num)) (items m d 0 (by norm_num)) (fun j => (hr d j).1) (fun j => (hr d j).2) rfl rfl R hR R' hR' O W hO 0

/-! ## Call 1 -/

/-- The coordinates of a tile in call 1's grid. -/
def coords1 (c : Fin (grid1.bound 0)) (s : Fin (grid1.bound 1)) : grid1.Coords :=
  fun | 0 => c | 1 => s | ⟨_ + 2, h⟩ => absurd h (Nat.not_lt.2 (Nat.le_add_left _ _))

/-- Call 1's tile runs the task. -/
theorem vector1 (c : Fin τ.nSC) (s : Fin τ.nSub) :
    defs₀ (F := F) (.scVector c s) 1 ()
      = SparseCore.onTile hcore1 hsub1 (fun c s => task (c.castLE hcore1) (s.castLE hsub1)
          (k1_off1 (coords1 c s)) (k1_off1_inb (coords1 c s)) (k1_off2 (coords1 c s)) (k1_off2_inb (coords1 c s))
          (Memref.whole main_arg0_scv) (Memref.whole main_arg1_scv) (Memref.whole main_arg2_scv) (Memref.whole main_arg3_scv)
          (Memref.whole main_v12_0_scv) (Memref.whole main_v12_1_scv)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4.sem cc1_scratch5.sem cc1_scratch6.sem cc1_scratch7.sem cc1_scoped0.sem cc1_scoped1.sem) ⟨⟩ c s := rfl

theorem goes1_eq (d : Dev nD) (c : Fin 2) (s : Fin 16) (h2 : ∀ a, (k1_off2 (coords1 c s)) a + S256x128.size a ≤ S8192x128.size a)
    (f g : S8192x128.Idx → F .f32) :
    (iprop(inputs m d c s ∗ outs1 d c s f g) : sProp 𝕄)
      = iprop((((Memref.whole main_arg0_scv).view.loc (V d (c.castLE hcore1) (s.castLE hsub1)) ↦{tq c s} m (tl d main_arg0))
          ∗ ((Memref.whole main_arg1_scv).view.loc (V d (c.castLE hcore1) (s.castLE hsub1)) ↦{tq c s} m (tl d main_arg1))
          ∗ ((Memref.whole main_arg2_scv).view.loc (V d (c.castLE hcore1) (s.castLE hsub1)) ↦{tq c s} m (tl d main_arg2))
          ∗ ((Memref.whole main_arg3_scv).view.loc (V d (c.castLE hcore1) (s.castLE hsub1)) ↦{tq c s} m (tl d main_arg3)))
        ∗ ((block (k1_off2 (coords1 c s)) h2 (Memref.whole main_v12_0_scv)).view.loc (V d (c.castLE hcore1) (s.castLE hsub1))
            ↦[(block (k1_off2 (coords1 c s)) h2 (Memref.whole main_v12_0_scv)).view.set]{fullShare} f)
        ∗ ((block (k1_off2 (coords1 c s)) h2 (Memref.whole main_v12_1_scv)).view.loc (V d (c.castLE hcore1) (s.castLE hsub1))
            ↦[(block (k1_off2 (coords1 c s)) h2 (Memref.whole main_v12_1_scv)).view.set]{fullShare} g)) := by
  have hs := block_set _ h2 c s (k1_off2_eq (coords1 c s))
  have e0 : (block (k1_off2 (coords1 c s)) h2 (Memref.whole main_v12_0_scv)).view.set = rowsOf c s := by
    rw [← hs]; show ((View.whole (main_v12_0_scv : Ref sig .scVector)).slice _).set = _
    rw [View.set_slice]; exact Finset.map_refl
  have e1 : (block (k1_off2 (coords1 c s)) h2 (Memref.whole main_v12_1_scv)).view.set = rowsOf c s := by
    rw [← hs]; show ((View.whole (main_v12_1_scv : Ref sig .scVector)).slice _).set = _
    rw [View.set_slice]; exact Finset.map_refl
  rw [e0, e1]

set_option maxRecDepth 16384 in
/-- Every tile of call 1, handed its part, hands it back with its rows gathered. -/
theorem tileObl1 (hF : (K (F := F)).Facts) (hr : InRange m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [vector1]; simp only [SparseCore.onTile, hci, and_self, ↓reduceDIte]
  change iprop(levAts (K (F := F)).L (K (F := F)).lev ∗ emp ∗ (inputs m d c i ∗ outs1 d c i (m (tl d main_v12_0)) (m (tl d main_v12_1)))
      ∗ scopedBufs (V d (Fin.castLE hcore1 c) (Fin.castLE hsub1 i)) ∗ scopedSems0 (V d (Fin.castLE hcore1 c) (Fin.castLE hsub1 i))
      ∗ owes (V d (Fin.castLE hcore1 c) (Fin.castLE hsub1 i)) O W)
    ⊢ wp frame _ Set.univ _ fun _ => iprop((inputs m d c i ∗ outs1 d c i (users m d 8192 (by norm_num)) (items m d 8192 (by norm_num)))
      ∗ scopedBufs (V d (Fin.castLE hcore1 c) (Fin.castLE hsub1 i)) ∗ scopedSems0 (V d (Fin.castLE hcore1 c) (Fin.castLE hsub1 i))
      ∗ ∃ W', ⌜∀ p ∈ W', p ∈ W ∨ p.2 = none ∨ p.2 = some 1⌝ ∗ owes (V d (Fin.castLE hcore1 c) (Fin.castLE hsub1 i)) O W')
  obtain ⟨R, hR⟩ := bufs_four (F := F) d (Fin.castLE hcore1 c) (Fin.castLE hsub1 i) cc1_scratch0 cc1_scratch1 cc1_scratch2 cc1_scratch3
    (by intro x hx; fin_cases hx <;> rfl) (by decide)
  obtain ⟨R', hR'⟩ := sems_six (F := F) d (Fin.castLE hcore1 c) (Fin.castLE hsub1 i) cc1_scoped0.sem cc1_scoped1.sem
    cc1_scratch4.sem cc1_scratch5.sem cc1_scratch6.sem cc1_scratch7.sem (by decide) (by decide)
  rw [goes1_eq m d c i (k1_off2_inb (coords1 c i)), goes1_eq m d c i (k1_off2_inb (coords1 c i))]
  exact tile_body hF d (Fin.castLE hcore1 c) (Fin.castLE hsub1 i)
    (k1_off1 (coords1 c i)) (k1_off1_inb (coords1 c i)) (k1_off2 (coords1 c i)) (k1_off2_inb (coords1 c i))
    (Memref.whole main_arg0_scv) (Memref.whole main_arg1_scv) (Memref.whole main_arg2_scv) (Memref.whole main_arg3_scv)
    (Memref.whole main_v12_0_scv) (Memref.whole main_v12_1_scv)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    cc1_scratch4.sem cc1_scratch5.sem cc1_scratch6.sem cc1_scratch7.sem cc1_scoped0.sem cc1_scoped1.sem
    (tq c i) (tq c i) (tq c i) (tq c i) (m (tl d main_arg0)) (m (tl d main_arg1)) (m (tl d main_arg2)) (m (tl d main_arg3))
    (m (tl d main_v12_0)) (m (tl d main_v12_1)) 8192 (by norm_num)
    (by rw [k1_off1_eq, k1_off2_eq]; simp [Nat.add_comm]) (by rw [k1_off2_eq]; rfl)
    (users m d 8192 (by norm_num)) (items m d 8192 (by norm_num)) (fun j => (hr d j).1) (fun j => (hr d j).2) rfl rfl R hR R' hR' O W hO 1

end Cert.Proof.Recommender

end
-- ==== Proof.Mlp.lean ====
/-
  The network's body on one block of 4096 rows.

  Both TensorCore calls run one body: it loads the block's rows of the two embeddings and the eight weight arrays, and
  stores one column of 4096 results. `mlp` is that column as a function of the ten arrays loaded; `mlp_run` is the body's
  run, over any staging buffers.
-/
module

public import proofs.«01_k».proof.Proof.Setup
public import Idealize.ShloMosaic.Lib.Pipeline.FrameBody
public import Idealize.ShloMosaic.Lib.Pipeline.Value
public import Idealize.ShloMosaic.Lib.Pointwise

@[expose] public section

noncomputable section

namespace Cert.Proof.Recommender

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- The results of one block of rows: the two embeddings `u` and `i` side by side through the three layers, each row of
    the last one summed against `w4`'s row, and `b4` added. -/
def mlp (u i : Vec F S4096x128 .f32) (w1 : Vec F S256x1024 .bf16) (b1 : Vec F S1x1024 .bf16) (w2 : Vec F S1024x128 .bf16)
    (b2 : Vec F S1x128 .bf16) (w3 : Vec F S128x1024 .bf16) (b3 : Vec F S1x1024 .bf16) (w4 : Vec F S1x1024 .f32)
    (b4 : Vec F S1x1 .f32) : Vec F S4096x1 .f32 :=
  k2_pay1 (k2_pay2 u i w1 b1 w2 b2 w3 b3) w4 b4

/-- Block `t` of an array of 8192 rows: its rows from `4096 t`. -/
def rowsAt (t : Fin 2) (U : Vec F S8192x128 .f32) : Vec F S4096x128 .f32 :=
  fun x => U (ix2 ⟨t.val * 4096 + (x 0).val, by have := (x 0).isLt; have h : S4096x128.size 0 = 4096 := rfl; omega⟩ (x 1))

/-- The results of 8192 rows, block by block. -/
def dense (U I : Vec F S8192x128 .f32) (w1 : Vec F S256x1024 .bf16) (b1 : Vec F S1x1024 .bf16) (w2 : Vec F S1024x128 .bf16)
    (b2 : Vec F S1x128 .bf16) (w3 : Vec F S128x1024 .bf16) (b3 : Vec F S1x1024 .bf16) (w4 : Vec F S1x1024 .f32)
    (b4 : Vec F S1x1 .f32) : Vec F S8192x1 .f32 :=
  fun y => mlp (rowsAt ⟨(y 0).val / 4096, by have := (y 0).isLt; have h : S8192x1.size 0 = 8192 := rfl; omega⟩ U)
    (rowsAt ⟨(y 0).val / 4096, by have := (y 0).isLt; have h : S8192x1.size 0 = 8192 := rfl; omega⟩ I) w1 b1 w2 b2 w3 b3 w4 b4
    (ix2 ⟨(y 0).val % 4096, Nat.mod_lt _ (by norm_num)⟩ (y 1))

/-- The block and the place in it of a row. -/
theorem dense_apply (U I : Vec F S8192x128 .f32) (w1 : Vec F S256x1024 .bf16) (b1 : Vec F S1x1024 .bf16) (w2 : Vec F S1024x128 .bf16)
    (b2 : Vec F S1x128 .bf16) (w3 : Vec F S128x1024 .bf16) (b3 : Vec F S1x1024 .bf16) (w4 : Vec F S1x1024 .f32)
    (b4 : Vec F S1x1 .f32) (t : Fin 2) (x : S4096x1.Idx) (y : S8192x1.Idx) (h0 : (y 0).val = t.val * 4096 + (x 0).val) :
    dense U I w1 b1 w2 b2 w3 b3 w4 b4 y = mlp (rowsAt t U) (rowsAt t I) w1 b1 w2 b2 w3 b3 w4 b4 x := by
  have hx : (x 0).val < 4096 := (x 0).isLt
  unfold dense
  have ht : (⟨(y 0).val / 4096, by have := (y 0).isLt; have h : S8192x1.size 0 = 8192 := rfl; omega⟩ : Fin 2) = t :=
    Fin.ext (show (y 0).val / 4096 = t.val by omega)
  rw [ht]
  congr 1
  funext a
  match a with
  | ⟨0, _⟩ => exact Fin.ext (show (y 0).val % 4096 = (x 0).val by omega)
  | ⟨1, _⟩ => exact Subsingleton.elim (α := Fin 1) _ _

theorem zero_offsets : (![0, 0] : Fin 2 → Nat) = fun _ => 0 := funext fun a => by fin_cases a <;> rfl

/-- The box of the body's one store is the whole column. -/
theorem column_covered (p : Vec F S4096x1 .f32) (y : S4096x1.Idx) :
    ∃ pc ∈ ([⟨Rect.unit (s := S4096x1) ![0, 0] S4096x1.size inb_S4096x1_S4096x1_0_0, p⟩] : List (View.Piece (Elt F) S4096x1 .f32)), y ∈ pc.1.set :=
  View.cover_of_tiled [⟨Rect.unit (s := S4096x1) ![0, 0] S4096x1.size inb_S4096x1_S4096x1_0_0, p⟩] S4096x1.size (by rfl) y

set_option maxHeartbeats 1000000 in
/-- The body's run: from the ten staging buffers at the blocks and the eleventh at anything, to the ten as they were and
    the eleventh at the block's results. -/
theorem mlp_run (c : Dev nD) (E : Set ℕ) (i : grid2.Coords) (M0 : Memref sig .tc .vmem S4096x128 .f32) (h0 : M0.IsWhole)
    (M1 : Memref sig .tc .vmem S4096x128 .f32) (h1 : M1.IsWhole) (M2 : Memref sig .tc .vmem S256x1024 .bf16) (h2 : M2.IsWhole)
    (M3 : Memref sig .tc .vmem S1x1024 .bf16) (h3 : M3.IsWhole) (M4 : Memref sig .tc .vmem S1024x128 .bf16) (h4 : M4.IsWhole)
    (M5 : Memref sig .tc .vmem S1x128 .bf16) (h5 : M5.IsWhole) (M6 : Memref sig .tc .vmem S128x1024 .bf16) (h6 : M6.IsWhole)
    (M7 : Memref sig .tc .vmem S1x1024 .bf16) (h7 : M7.IsWhole) (M8 : Memref sig .tc .vmem S1x1024 .f32) (h8 : M8.IsWhole)
    (M9 : Memref sig .tc .vmem S1x1 .f32) (h9 : M9.IsWhole) (M10 : Memref sig .tc .vmem S4096x1 .f32) (h10 : M10.IsWhole)
    (x0 x1 : Vec F S4096x128 .f32) (x2 : Vec F S256x1024 .bf16) (x3 : Vec F S1x1024 .bf16) (x4 : Vec F S1024x128 .bf16)
    (x5 : Vec F S1x128 .bf16) (x6 : Vec F S128x1024 .bf16) (x7 : Vec F S1x1024 .bf16) (x8 : Vec F S1x1024 .f32) (x9 : Vec F S1x1 .f32)
    (Q : PUnit → sProp 𝕄) :
    iprop(owns (c : Thread nD τ) M0 fullShare x0 ∗ owns (c : Thread nD τ) M1 fullShare x1 ∗ owns (c : Thread nD τ) M2 fullShare x2
        ∗ owns (c : Thread nD τ) M3 fullShare x3 ∗ owns (c : Thread nD τ) M4 fullShare x4 ∗ owns (c : Thread nD τ) M5 fullShare x5
        ∗ owns (c : Thread nD τ) M6 fullShare x6 ∗ owns (c : Thread nD τ) M7 fullShare x7 ∗ owns (c : Thread nD τ) M8 fullShare x8
        ∗ owns (c : Thread nD τ) M9 fullShare x9 ∗ (∃ d, owns (c : Thread nD τ) M10 fullShare d)
        ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4 ∗ owns (c : Thread nD τ) M5 fullShare x5
          ∗ owns (c : Thread nD τ) M6 fullShare x6 ∗ owns (c : Thread nD τ) M7 fullShare x7 ∗ owns (c : Thread nD τ) M8 fullShare x8
          ∗ owns (c : Thread nD τ) M9 fullShare x9 ∗ owns (c : Thread nD τ) M10 fullShare (mlp x0 x1 x2 x3 x4 x5 x6 x7 x8 x9)) -∗ Q ⟨⟩))
      ⊢ wp frame (wpE (defs₀ (F := F)) Variants.none (c : Thread nD τ) none) E
          (cc2__mlp_body i M0 h0 M1 h1 M2 h2 M3 h3 M4 h4 M5 h5 M6 h6 M7 h7 M8 h8 M9 h9 M10 h10) Q := by
  simp only [cc2__mlp_body_eq_skeleton]; unfold cc2__mlp_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  iexists _; isplitr
  swap; · iexact H10
  ipureintro
  refine (View.read_writes_eq_canon _ _ _ (column_covered _)).trans ?_
  rw [View.canon_unit_zero zero_offsets]
  unfold mlp
  dsimp only
  congr 1
  · congr 1
    · exact View.ld_unit_zero (S := S4096x128) zero_offsets _ _
    · exact View.ld_unit_zero (S := S4096x128) zero_offsets _ _
    · exact View.ld_unit_zero (S := S256x1024) zero_offsets _ _
    · exact View.ld_unit_zero (S := S1x1024) zero_offsets _ _
    · exact View.ld_unit_zero (S := S1024x128) zero_offsets _ _
    · exact View.ld_unit_zero (S := S1x128) zero_offsets _ _
    · exact View.ld_unit_zero (S := S128x1024) zero_offsets _ _
    · exact View.ld_unit_zero (S := S1x1024) zero_offsets _ _
  · exact View.ld_unit_zero (S := S1x1024) zero_offsets _ _
  · exact View.ld_unit_zero (S := S1x1) zero_offsets _ _

/-- The two calls' bodies are one text. -/
theorem same_body (i : grid3.Coords) (i' : grid2.Coords) :
    cc3__mlp_body (F := F) i = cc2__mlp_body i' := rfl

end Cert.Proof.Recommender

end
-- ==== Proof.Dense0.lean ====
/-
  The first TensorCore call: the network over the 8192 rows the first gather call wrote.

  The call is a pipeline over two blocks of 4096 rows. Its proof data, from any contents of the arrays: an input's staging
  buffer holds the block it was fetched, the result's holds the block's results. So the result's array ends as `dense` of
  the ten arrays read.
-/
module

public import proofs.«01_k».proof.Proof.Mlp
public import proofs.«01_k».proof.Proof.Gen.KernelIdeal.Points
public import Idealize.ShloMosaic.Lib.Pipeline.RegionArrays
public import Idealize.ShloMosaic.Lib.Pipeline.ValueKit

@[expose] public section

noncomputable section

namespace Cert.Proof.Recommender

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MM F

namespace Call0

variable (V : Dev nD → Valuation τ sig (Elt F))

/-- The block of window `w`'s array that point `t` fetches. -/
def blk (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The results of point `t`'s block. -/
def out (c : Dev nD) (t : Fin cfg2.N) : Vec F S4096x1 .f32 :=
  mlp (blk V c 0 t) (blk V c 1 t) (blk V c 2 t) (blk V c 3 t) (blk V c 4 t) (blk V c 5 t) (blk V c 6 t) (blk V c 7 t) (blk V c 8 t) (blk V c 9 t)

/-- The call's proof data from the arrays' contents `V`. -/
def dat (c : Dev nD) : Dat τ (Elt F) (HIx 2) ℕ UU ℕ cfg2 c where
  A w := V c (Proc.devRef .tc (Pipeline.arrRef spec2 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => out V c t
    | ⟨_ + 11, h⟩ => absurd h (Nat.not_lt.2 (Nat.le_add_left _ _))
  Φ _ := Pipeline.scopedRest spec2 c
  q _ := fullShare
  owed _ := 0

/-- An input's staging buffer holds the point's block when the body runs, fetched there or kept from the point before. -/
theorem before (c : Dev nD) (w : Fin cfg2.W) (hw : w ≠ 10) (t : Fin cfg2.N) (d : (cfg2.win w).block.Idx → Elt F (cfg2.win w).elt) :
    (dat V c).before w t d = (dat V c).after w t := by
  have hin : (cfg2.win w).isOut = false := (by decide : ∀ w : Fin 11, w ≠ 10 → (win2 w).isOut = false) w hw
  fin_cases w <;> first
    | exact absurd rfl hw
    | exact ((dat V c).before_in_eq_fetched _ hin (fun _ => rfl) (fun _ _ _ => rfl) (fun _ => rfl) t d).trans rfl

set_option maxHeartbeats 1000000 in
/-- The body does at each point what the proof data says. -/
theorem body_obligation (c : Dev nD) : BodyObligation (dat V c) (defs₀ (F := F)) 𝒱₀ none Set.univ := fun t => by
  rw [bigSep_W2, bigSep_W2]
  rw [show (dat V c).Φ t.succ = (dat V c).Φ t.castSucc from rfl,
    show (dat V c).owesAt none t.succ = (dat V c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before V c 0 (by decide), before V c 1 (by decide), before V c 2 (by decide), before V c 3 (by decide), before V c 4 (by decide),
    before V c 5 (by decide), before V c 6 (by decide), before V c 7 (by decide), before V c 8 (by decide), before V c 9 (by decide)]
  iapply (mlp_run c Set.univ (grid2.coords t) _ _ _ _ _ _ _ _ _ _ _ _ _ _ _ _ _ _ _ _ _ _
    (blk V c 0 t) (blk V c 1 t) (blk V c 2 t) (blk V c 3 t) (blk V c 4 t) (blk V c 5 t) (blk V c 6 t) (blk V c 7 t) (blk V c 8 t) (blk V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The results' array the call leaves, from the arrays it reads. -/
def result (c : Dev nD) : Vec F S8192x1 .f32 :=
  dense (V c (Proc.devRef .tc main_v11_0)) (V c (Proc.devRef .tc main_v11_1)) (V c (Proc.devRef .tc main_v0)) (V c (Proc.devRef .tc main_v2))
    (V c (Proc.devRef .tc main_v3)) (V c (Proc.devRef .tc main_v5)) (V c (Proc.devRef .tc main_v6)) (V c (Proc.devRef .tc main_v8))
    (V c (Proc.devRef .tc main_v9)) (V c (Proc.devRef .tc main_v10))

/-- Point `t`'s blocks of the gathered rows and of the results are block `t`. -/
theorem index_rows : ∀ t : Fin cfg2.N, win2_0.index t = ![t.val, 0] ∧ win2_1.index t = ![t.val, 0] ∧ win2_10.index t = ![t.val, 0] :=
  (by decide +kernel : ∀ t : Fin grid2.N, _)

/-- Every point's block of a weight is the whole array. -/
theorem index_weights : ∀ t : Fin cfg2.N, win2_2.index t = ![0, 0] ∧ win2_3.index t = ![0, 0] ∧ win2_4.index t = ![0, 0] ∧ win2_5.index t = ![0, 0] ∧
    win2_6.index t = ![0, 0] ∧ win2_7.index t = ![0, 0] ∧ win2_8.index t = ![0, 0] ∧ win2_9.index t = ![0, 0] :=
  (by decide +kernel : ∀ t : Fin grid2.N, _)

/-! Each input's block, of the array it is cut from. -/

theorem blk_0 (c : Dev nD) (t : Fin cfg2.N) (h : t.val < 2) : blk V c 0 t = rowsAt ⟨t.val, h⟩ (V c (Proc.devRef .tc main_v11_0)) := by
  have e := (index_rows t).1
  funext y
  blk_simp [blk]
  unfold rowsAt
  congr 1
  blk_ext [e]

theorem blk_1 (c : Dev nD) (t : Fin cfg2.N) (h : t.val < 2) : blk V c 1 t = rowsAt ⟨t.val, h⟩ (V c (Proc.devRef .tc main_v11_1)) := by
  have e := (index_rows t).2.1
  funext y
  blk_simp [blk]
  unfold rowsAt
  congr 1
  blk_ext [e]

theorem blk_2 (c : Dev nD) (t : Fin cfg2.N) : blk V c 2 t = V c (Proc.devRef .tc main_v0) := by
  have e := (index_weights t).1
  funext y
  blk_simp [blk]
  congr 1
  blk_ext [e]

theorem blk_3 (c : Dev nD) (t : Fin cfg2.N) : blk V c 3 t = V c (Proc.devRef .tc main_v2) := by
  have e := (index_weights t).2.1
  funext y
  blk_simp [blk]
  congr 1
  blk_ext [e]

theorem blk_4 (c : Dev nD) (t : Fin cfg2.N) : blk V c 4 t = V c (Proc.devRef .tc main_v3) := by
  have e := (index_weights t).2.2.1
  funext y
  blk_simp [blk]
  congr 1
  blk_ext [e]

theorem blk_5 (c : Dev nD) (t : Fin cfg2.N) : blk V c 5 t = V c (Proc.devRef .tc main_v5) := by
  have e := (index_weights t).2.2.2.1
  funext y
  blk_simp [blk]
  congr 1
  blk_ext [e]

theorem blk_6 (c : Dev nD) (t : Fin cfg2.N) : blk V c 6 t = V c (Proc.devRef .tc main_v6) := by
  have e := (index_weights t).2.2.2.2.1
  funext y
  blk_simp [blk]
  congr 1
  blk_ext [e]

theorem blk_7 (c : Dev nD) (t : Fin cfg2.N) : blk V c 7 t = V c (Proc.devRef .tc main_v8) := by
  have e := (index_weights t).2.2.2.2.2.1
  funext y
  blk_simp [blk]
  congr 1
  blk_ext [e]

theorem blk_8 (c : Dev nD) (t : Fin cfg2.N) : blk V c 8 t = V c (Proc.devRef .tc main_v9) := by
  have e := (index_weights t).2.2.2.2.2.2.1
  funext y
  blk_simp [blk]
  congr 1
  blk_ext [e]

theorem blk_9 (c : Dev nD) (t : Fin cfg2.N) : blk V c 9 t = V c (Proc.devRef .tc main_v10) := by
  have e := (index_weights t).2.2.2.2.2.2.2
  funext y
  blk_simp [blk]
  congr 1
  blk_ext [e]

/-- The results' array after the last point: the network's results on every row. -/
theorem arrAt_result (c : Dev nD) : (dat V c).arrAt 10 cfg2.N = result V c := by
  refine (dat V c).arrAt_eq_of_covers 10 _ (by decide +kernel) fun t hf y => ?_
  have e := (index_rows t).2.2
  have ht : t.val < 2 := t.isLt
  show out V c t y = result V c (((cfg2.win 10).blk t).view.emb y)
  unfold out result
  rw [blk_0 V c t ht, blk_1 V c t ht, blk_2, blk_3, blk_4, blk_5, blk_6, blk_7, blk_8, blk_9]
  refine (dense_apply _ _ _ _ _ _ _ _ _ _ ⟨t.val, ht⟩ y _ ?_).symm
  blk_simp [e]

/-- An input's array is the same after the last point as before the first. -/
theorem arrAt_input (c : Dev nD) (w : Fin cfg2.W) (hw : w ≠ 10) (n : Nat) :
    (dat V c).arrAt w n = V c (Proc.devRef .tc (Pipeline.arrRef spec2 w)) :=
  (dat V c).arrAt_in w ((by decide : ∀ w : Fin 11, w ≠ 10 → (win2 w).isOut = false) w hw) n

/-- The arrays after the call: the results' array holds the results, every other is unchanged. -/
def after : Dev nD → Valuation τ sig (Elt F) := fun c => Function.update (V c) (Proc.devRef .tc main_v13) (result V c)

/-- Every array of the call after its last point. -/
theorem arrAt_after (c : Dev nD) (w : Fin cfg2.W) :
    (dat V c).arrAt w cfg2.N = after V c (Proc.devRef .tc (Pipeline.arrRef spec2 w)) := by
  unfold after
  by_cases hw : w = 10
  · subst hw
    rw [arrAt_result]
    exact (Function.update_self (f := V c) (Proc.devRef .tc main_v13) (result V c)).symm
  · rw [arrAt_input V c w hw, Function.update_of_ne]
    exact (by decide : ∀ w : Fin 11, w ≠ 10 → Proc.devRef (τ := τ) .tc (Pipeline.arrRef spec2 w) ≠ Proc.devRef .tc main_v13) w hw

/-- What is no array of the call is unchanged. -/
theorem after_rest (c : Dev nD) (b : DevRef τ sig) (hb : b ∈ Pipeline.ucRefs τ sig \ Pipeline.arrRefs spec2) : V c b = after V c b := by
  refine (Function.update_of_ne (fun e => ?_) _ _).symm
  refine (Finset.mem_sdiff.mp hb).2 ?_
  rw [e]
  exact Finset.mem_map_of_mem _ (Finset.mem_image_of_mem (Pipeline.arrRef spec2) (Finset.mem_univ (10 : Fin 11)))

end Call0

end Cert.Proof.Recommender

end
-- ==== Proof.Dense1.lean ====
/-
  The second TensorCore call: the network over the 8192 rows the second gather call wrote.

  Its body is the first call's (`same_body`), over its own windows and arrays; the proof data is stated as there.
-/
module

public import proofs.«01_k».proof.Proof.Mlp
public import proofs.«01_k».proof.Proof.Gen.KernelIdeal.Points
public import Idealize.ShloMosaic.Lib.Pipeline.RegionArrays
public import Idealize.ShloMosaic.Lib.Pipeline.ValueKit

@[expose] public section

noncomputable section

namespace Cert.Proof.Recommender

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MM F

namespace Call1

variable (V : Dev nD → Valuation τ sig (Elt F))

/-- The block of window `w`'s array that point `t` fetches. -/
def blk (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- The results of point `t`'s block. -/
def out (c : Dev nD) (t : Fin cfg3.N) : Vec F S4096x1 .f32 :=
  mlp (blk V c 0 t) (blk V c 1 t) (blk V c 2 t) (blk V c 3 t) (blk V c 4 t) (blk V c 5 t) (blk V c 6 t) (blk V c 7 t) (blk V c 8 t) (blk V c 9 t)

/-- The call's proof data from the arrays' contents `V`. -/
def dat (c : Dev nD) : Dat τ (Elt F) (HIx 2) ℕ UU ℕ cfg3 c where
  A w := V c (Proc.devRef .tc (Pipeline.arrRef spec3 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => out V c t
    | ⟨_ + 11, h⟩ => absurd h (Nat.not_lt.2 (Nat.le_add_left _ _))
  Φ _ := Pipeline.scopedRest spec3 c
  q _ := fullShare
  owed _ := 0

/-- An input's staging buffer holds the point's block when the body runs, fetched there or kept from the point before. -/
theorem before (c : Dev nD) (w : Fin cfg3.W) (hw : w ≠ 10) (t : Fin cfg3.N) (d : (cfg3.win w).block.Idx → Elt F (cfg3.win w).elt) :
    (dat V c).before w t d = (dat V c).after w t := by
  have hin : (cfg3.win w).isOut = false := (by decide : ∀ w : Fin 11, w ≠ 10 → (win3 w).isOut = false) w hw
  fin_cases w <;> first
    | exact absurd rfl hw
    | exact ((dat V c).before_in_eq_fetched _ hin (fun _ => rfl) (fun _ _ _ => rfl) (fun _ => rfl) t d).trans rfl

set_option maxHeartbeats 1000000 in
/-- The body does at each point what the proof data says. -/
theorem body_obligation (c : Dev nD) : BodyObligation (dat V c) (defs₀ (F := F)) 𝒱₀ none Set.univ := fun t => by
  rw [bigSep_W3, bigSep_W3]
  rw [show (dat V c).Φ t.succ = (dat V c).Φ t.castSucc from rfl,
    show (dat V c).owesAt none t.succ = (dat V c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before V c 0 (by decide), before V c 1 (by decide), before V c 2 (by decide), before V c 3 (by decide), before V c 4 (by decide),
    before V c 5 (by decide), before V c 6 (by decide), before V c 7 (by decide), before V c 8 (by decide), before V c 9 (by decide)]
  iapply (mlp_run c Set.univ (grid2.coords t)
    (win3_0.stage (cfg3.slots t 0)) (hstage3_0 ((cfg3.slots t 0).cast nbuf3_0))
    (win3_1.stage (cfg3.slots t 1)) (hstage3_1 ((cfg3.slots t 1).cast nbuf3_1))
    (win3_2.stage (cfg3.slots t 2)) (hstage3_2 ((cfg3.slots t 2).cast nbuf3_2))
    (win3_3.stage (cfg3.slots t 3)) (hstage3_3 ((cfg3.slots t 3).cast nbuf3_3))
    (win3_4.stage (cfg3.slots t 4)) (hstage3_4 ((cfg3.slots t 4).cast nbuf3_4))
    (win3_5.stage (cfg3.slots t 5)) (hstage3_5 ((cfg3.slots t 5).cast nbuf3_5))
    (win3_6.stage (cfg3.slots t 6)) (hstage3_6 ((cfg3.slots t 6).cast nbuf3_6))
    (win3_7.stage (cfg3.slots t 7)) (hstage3_7 ((cfg3.slots t 7).cast nbuf3_7))
    (win3_8.stage (cfg3.slots t 8)) (hstage3_8 ((cfg3.slots t 8).cast nbuf3_8))
    (win3_9.stage (cfg3.slots t 9)) (hstage3_9 ((cfg3.slots t 9).cast nbuf3_9))
    (win3_10.stage (cfg3.slots t 10)) (hstage3_10 ((cfg3.slots t 10).cast nbuf3_10))
    (blk V c 0 t) (blk V c 1 t) (blk V c 2 t) (blk V c 3 t) (blk V c 4 t) (blk V c 5 t) (blk V c 6 t) (blk V c 7 t) (blk V c 8 t) (blk V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The results' array the call leaves, from the arrays it reads. -/
def result (c : Dev nD) : Vec F S8192x1 .f32 :=
  dense (V c (Proc.devRef .tc main_v12_0)) (V c (Proc.devRef .tc main_v12_1)) (V c (Proc.devRef .tc main_v0)) (V c (Proc.devRef .tc main_v2))
    (V c (Proc.devRef .tc main_v3)) (V c (Proc.devRef .tc main_v5)) (V c (Proc.devRef .tc main_v6)) (V c (Proc.devRef .tc main_v8))
    (V c (Proc.devRef .tc main_v9)) (V c (Proc.devRef .tc main_v10))

/-- Point `t`'s blocks of the gathered rows and of the results are block `t`. -/
theorem index_rows : ∀ t : Fin cfg3.N, win3_0.index t = ![t.val, 0] ∧ win3_1.index t = ![t.val, 0] ∧ win3_10.index t = ![t.val, 0] :=
  (by decide +kernel : ∀ t : Fin grid3.N, _)

/-- Every point's block of a weight is the whole array. -/
theorem index_weights : ∀ t : Fin cfg3.N, win3_2.index t = ![0, 0] ∧ win3_3.index t = ![0, 0] ∧ win3_4.index t = ![0, 0] ∧ win3_5.index t = ![0, 0] ∧
    win3_6.index t = ![0, 0] ∧ win3_7.index t = ![0, 0] ∧ win3_8.index t = ![0, 0] ∧ win3_9.index t = ![0, 0] :=
  (by decide +kernel : ∀ t : Fin grid3.N, _)

/-! Each input's block, of the array it is cut from. -/

theorem blk_0 (c : Dev nD) (t : Fin cfg3.N) (h : t.val < 2) : blk V c 0 t = rowsAt ⟨t.val, h⟩ (V c (Proc.devRef .tc main_v12_0)) := by
  have e := (index_rows t).1
  funext y
  blk_simp [blk]
  unfold rowsAt
  congr 1
  blk_ext [e]

theorem blk_1 (c : Dev nD) (t : Fin cfg3.N) (h : t.val < 2) : blk V c 1 t = rowsAt ⟨t.val, h⟩ (V c (Proc.devRef .tc main_v12_1)) := by
  have e := (index_rows t).2.1
  funext y
  blk_simp [blk]
  unfold rowsAt
  congr 1
  blk_ext [e]

theorem blk_2 (c : Dev nD) (t : Fin cfg3.N) : blk V c 2 t = V c (Proc.devRef .tc main_v0) := by
  have e := (index_weights t).1
  funext y
  blk_simp [blk]
  congr 1
  blk_ext [e]

theorem blk_3 (c : Dev nD) (t : Fin cfg3.N) : blk V c 3 t = V c (Proc.devRef .tc main_v2) := by
  have e := (index_weights t).2.1
  funext y
  blk_simp [blk]
  congr 1
  blk_ext [e]

theorem blk_4 (c : Dev nD) (t : Fin cfg3.N) : blk V c 4 t = V c (Proc.devRef .tc main_v3) := by
  have e := (index_weights t).2.2.1
  funext y
  blk_simp [blk]
  congr 1
  blk_ext [e]

theorem blk_5 (c : Dev nD) (t : Fin cfg3.N) : blk V c 5 t = V c (Proc.devRef .tc main_v5) := by
  have e := (index_weights t).2.2.2.1
  funext y
  blk_simp [blk]
  congr 1
  blk_ext [e]

theorem blk_6 (c : Dev nD) (t : Fin cfg3.N) : blk V c 6 t = V c (Proc.devRef .tc main_v6) := by
  have e := (index_weights t).2.2.2.2.1
  funext y
  blk_simp [blk]
  congr 1
  blk_ext [e]

theorem blk_7 (c : Dev nD) (t : Fin cfg3.N) : blk V c 7 t = V c (Proc.devRef .tc main_v8) := by
  have e := (index_weights t).2.2.2.2.2.1
  funext y
  blk_simp [blk]
  congr 1
  blk_ext [e]

theorem blk_8 (c : Dev nD) (t : Fin cfg3.N) : blk V c 8 t = V c (Proc.devRef .tc main_v9) := by
  have e := (index_weights t).2.2.2.2.2.2.1
  funext y
  blk_simp [blk]
  congr 1
  blk_ext [e]

theorem blk_9 (c : Dev nD) (t : Fin cfg3.N) : blk V c 9 t = V c (Proc.devRef .tc main_v10) := by
  have e := (index_weights t).2.2.2.2.2.2.2
  funext y
  blk_simp [blk]
  congr 1
  blk_ext [e]

/-- The results' array after the last point: the network's results on every row. -/
theorem arrAt_result (c : Dev nD) : (dat V c).arrAt 10 cfg3.N = result V c := by
  refine (dat V c).arrAt_eq_of_covers 10 _ (by decide +kernel) fun t hf y => ?_
  have e := (index_rows t).2.2
  have ht : t.val < 2 := t.isLt
  show out V c t y = result V c (((cfg3.win 10).blk t).view.emb y)
  unfold out result
  rw [blk_0 V c t ht, blk_1 V c t ht, blk_2, blk_3, blk_4, blk_5, blk_6, blk_7, blk_8, blk_9]
  refine (dense_apply _ _ _ _ _ _ _ _ _ _ ⟨t.val, ht⟩ y _ ?_).symm
  blk_simp [e]

/-- An input's array is the same after the last point as before the first. -/
theorem arrAt_input (c : Dev nD) (w : Fin cfg3.W) (hw : w ≠ 10) (n : Nat) :
    (dat V c).arrAt w n = V c (Proc.devRef .tc (Pipeline.arrRef spec3 w)) :=
  (dat V c).arrAt_in w ((by decide : ∀ w : Fin 11, w ≠ 10 → (win3 w).isOut = false) w hw) n

/-- The arrays after the call: the results' array holds the results, every other is unchanged. -/
def after : Dev nD → Valuation τ sig (Elt F) := fun c => Function.update (V c) (Proc.devRef .tc main_v14) (result V c)

/-- Every array of the call after its last point. -/
theorem arrAt_after (c : Dev nD) (w : Fin cfg3.W) :
    (dat V c).arrAt w cfg3.N = after V c (Proc.devRef .tc (Pipeline.arrRef spec3 w)) := by
  unfold after
  by_cases hw : w = 10
  · subst hw
    rw [arrAt_result]
    exact (Function.update_self (f := V c) (Proc.devRef .tc main_v14) (result V c)).symm
  · rw [arrAt_input V c w hw, Function.update_of_ne]
    exact (by decide : ∀ w : Fin 11, w ≠ 10 → Proc.devRef (τ := τ) .tc (Pipeline.arrRef spec3 w) ≠ Proc.devRef .tc main_v14) w hw

/-- What is no array of the call is unchanged. -/
theorem after_rest (c : Dev nD) (b : DevRef τ sig) (hb : b ∈ Pipeline.ucRefs τ sig \ Pipeline.arrRefs spec3) : V c b = after V c b := by
  refine (Function.update_of_ne (fun e => ?_) _ _).symm
  refine (Finset.mem_sdiff.mp hb).2 ?_
  rw [e]
  exact Finset.mem_map_of_mem _ (Finset.mem_image_of_mem (Pipeline.arrRef spec3) (Finset.mem_univ (10 : Fin 11)))

end Call1

end Cert.Proof.Recommender

end
-- ==== Proof.Region.lean ====
/-
  The TensorCore calls on the TensorCore's thread.

  A call is entered with every buffer of the thread held at a valuation, and left with them held at the valuation that has
  the results' array replaced by the results.
-/
module

public import proofs.«01_k».proof.Proof.Dense0
public import proofs.«01_k».proof.Proof.Dense1
public import proofs.«01_k».proof.Proof.Gen.KernelIdeal.Launch
public import Idealize.ShloMosaic.Lib.SparseCore.Threads
public import Idealize.ShloMosaic.Lib.SparseCore.Quiescent

@[expose] public section

set_option backward.isDefEq.respectTransparency.types false

noncomputable section

namespace Cert.Proof.Recommender

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation ucRefs)
open Idealize.ShloMosaic.StableHlo (held)

variable {F : FTy → Type} [FloatOps F]

local notation "𝕄" => MM F

/-- The pipelines prefetch no table. -/
abbrev adm : (p : Fin 2) → (pcfgs (F := F) p).Adm := fun p => (cfgs p).toPCfg_adm

/-- Every pipeline's proof data, one per pipeline. -/
abbrev Dats (F : FTy → Type) : Type :=
  (p : Fin 2) → (c : Dev nD) → Dat τ (Elt F) (HIx 2) ℕ UU ℕ (Pipeline.pin (pcfgs (F := F)) adm p) c

/-- The proof data of both calls, each from contents of its own. -/
def pdats (V₀ V₁ : Dev nD → Valuation τ sig (Elt F)) : Dats F
  | ⟨0, _⟩ => fun c => Call0.dat V₀ c
  | ⟨1, _⟩ => fun c => Call1.dat V₁ c

/-- The pipelines' staging cells are distinct. -/
theorem cells_inj : Function.Injective (Pipeline.cellOf (nD := nD) (τ := τ) (Pipeline.pin (pcfgs (F := F)) adm)) :=
  cellOf_inj

/-- The staging waits sit below every level, and nothing is owed while a call runs. -/
theorem level_cut (p : Fin 2) : Pipeline.LevelCut (nD := nD) (pcfgs (F := F)) adm none (K (F := F)).L (K (F := F)).lev p (fun _ => 0) (fun _ => 0) where
  hι _ _ _ := Finset.mem_univ _
  hιb _ _ _ := le_of_eq rfl
  hD _ _ _ h := absurd h (Nat.lt_irrefl 0)

/-- One call's region, between two valuations that differ only in what the call writes. -/
def region (p : Fin 2) (kit : Pipeline.PLaunchFacts (nD := nD) (τ := τ) (pcfgs (F := F)) p) (dats : Dats F)
    (hbody : ∀ c, Pipeline.BodyObligationLoose (dats p c) (defs₀ (F := F)) 𝒱₀ none Set.univ)
    (howed : ∀ c t, (dats p c).owed t = 0) (hrec : ∀ c, (dats p c).recorded 0 = Set.univ) (hshare : ∀ c w, (dats p c).share w = fullShare)
    (hΦ : ∀ c t, (dats p c).Φ t = Pipeline.scopedRest (Pipeline.pin (pcfgs (F := F)) adm p).spec c)
    (hK : (pcfgs (F := F) p).pre.K = 0)
    (V V' : Dev nD → Valuation τ sig (Elt F))
    (hV : ∀ c w, (dats p c).arrAt w 0 = V c (Proc.devRef .tc (Pipeline.arrRef (Pipeline.pin (pcfgs (F := F)) adm p).spec w)))
    (hV' : ∀ c w, (dats p c).arrAt w (Pipeline.pin (pcfgs (F := F)) adm p).N = V' c (Proc.devRef .tc (Pipeline.arrRef (Pipeline.pin (pcfgs (F := F)) adm p).spec w))) :
    Pipeline.RegionSeg (pcfgs (F := F)) adm dats none (defs₀ (F := F)) 𝒱₀ (K (F := F)).L (K (F := F)).lev p :=
  Pipeline.RegionSeg.ofHeld (pcfgs (F := F)) adm dats none (defs₀ (F := F)) 𝒱₀ (K (F := F)).L (K (F := F)).lev p (fun _ => 0)
    (fun _ => BI.emp) (fun _ => BI.emp) kit hK hbody howed hrec hshare
    (fun c => by rw [hΦ]; iintro ⟨H, -⟩; iexact H)
    (fun c => by
      rw [hΦ]
      iintro H
      isplitl [H]; · iexact H
      iempintro)
    (fun _ => 0) (level_cut p) (fun _ => BI.emp) V V' hV hV'

/-- What a call's pipeline needs of the launch: its cells' ghost state and its transfers' tokens. -/
def ghost (p : Fin 2) (c : Dev nD) : sProp 𝕄 :=
  iprop(Pipeline.cellsGhost (Pipeline.pin (pcfgs (F := F)) adm) EP p c ∗ Pipeline.toksInit (Pipeline.pin (pcfgs (F := F)) adm) EP p c)

/-- One call on the TensorCore's thread, among every buffer the thread holds. -/
theorem region_wp [∀ e, Nonempty (Elt F e)] (p : Fin 2) (kit : Pipeline.PLaunchFacts (nD := nD) (τ := τ) (pcfgs (F := F)) p) (dats : Dats F)
    (hbody : ∀ c, Pipeline.BodyObligationLoose (dats p c) (defs₀ (F := F)) 𝒱₀ none Set.univ)
    (howed : ∀ c t, (dats p c).owed t = 0) (hrec : ∀ c, (dats p c).recorded 0 = Set.univ) (hshare : ∀ c w, (dats p c).share w = fullShare)
    (hΦ : ∀ c t, (dats p c).Φ t = Pipeline.scopedRest (Pipeline.pin (pcfgs (F := F)) adm p).spec c)
    (hK : (pcfgs (F := F) p).pre.K = 0)
    (V V' : Dev nD → Valuation τ sig (Elt F))
    (hV : ∀ c w, (dats p c).arrAt w 0 = V c (Proc.devRef .tc (Pipeline.arrRef (Pipeline.pin (pcfgs (F := F)) adm p).spec w)))
    (hV' : ∀ c w, (dats p c).arrAt w (Pipeline.pin (pcfgs (F := F)) adm p).N = V' c (Proc.devRef .tc (Pipeline.arrRef (Pipeline.pin (pcfgs (F := F)) adm p).spec w)))
    (hrest : ∀ c, ∀ b ∈ ucRefs τ sig \ Pipeline.arrRefs (pcfgs (F := F) p).spec, V c b = V' c b)
    (c : Dev nD) (Q : PUnit → sProp 𝕄) :
    iprop((iprop(boundary (c : Thread nD τ) ∗ held (c : Thread nD τ) (ucRefs τ sig) (V' c) ∗ ∃ W, owes (c : Thread nD τ) 0 W) -∗ Q ⟨⟩)
        ∗ boundary (c : Thread nD τ) ∗ held (c : Thread nD τ) (ucRefs τ sig) (V c) ∗ (∃ W, owes (c : Thread nD τ) 0 W)
        ∗ levAts (K (F := F)).L (K (F := F)).lev ∗ ghost p c)
      ⊢ wp frame (wpE ((K (F := F)).defs (D (F := F))) 𝒱 (SparseCore.T c) none) Set.univ
          (Prog.lift (.customCall (SparseCore.inner (Pipeline.entry p)) ())) Q := by
  have hsub : Pipeline.arrRefs (τ := τ) (pcfgs (F := F) p).spec ⊆ ucRefs τ sig :=
    Pipeline.arrRefs_sub_ucRefs _ fun w => kit.win.arr_unscoped w
  have h1 := (K (F := F)).wp_liftProg (D (F := F)) 𝒱 (SparseCore.T c) Set.univ none
    (.op (.customCall (Pipeline.entry p) ()) fun _ => .ret ⟨⟩) Q
  have h2 := (region p kit dats hbody howed hrec hshare hΦ hK V V' hV hV').wp (pcfgs (F := F)) adm dats none cells_inj EP
    (defs₀ (F := F)) 𝒱₀ (K (F := F)).L (K (F := F)).lev c none (fun _ h => nomatch h) (fun _ => .ret ⟨⟩) Q
  refine Laws.entails_trans ?_ (h2.trans h1)
  rw [StableHlo.held_sub_split _ hsub, StableHlo.held_sub_split _ hsub, StableHlo.held_congr (c : Thread nD τ) (hrest c)]
  rw [show (region p kit dats hbody howed hrec hshare hΦ hK V V' hV hV').pre c = iprop(held (c : Thread nD τ) (Pipeline.arrRefs (pcfgs (F := F) p).spec) (V c) ∗ BI.emp ∗ BI.emp ∗ ∃ W, owes (c : Thread nD τ) 0 W) from rfl,
    show (region p kit dats hbody howed hrec hshare hΦ hK V V' hV hV').post c = iprop(held (c : Thread nD τ) (Pipeline.arrRefs (pcfgs (F := F) p).spec) (V' c) ∗ BI.emp ∗ BI.emp ∗ ∃ W, owes (c : Thread nD τ) 0 W) from rfl]
  rw [wp_ret]
  unfold ghost
  iintro ⟨Hk, Hb, ⟨Ha, Hr⟩, Ho, Hl, Hc, Ht⟩
  isplitl [Hk Hr]
  · iintro ⟨Hb, Ha, -, -, Ho⟩
    imodintro
    iapply Hk
    isplitl [Hb]; · iexact Hb
    isplitl [Ha Hr]
    · isplitl [Ha]; · iexact Ha
      iexact Hr
    iexact Ho
  isplitl [Hb]; · iexact Hb
  isplitl [Ha Ho]
  · isplitl [Ha]; · iexact Ha
    isplitr; · iempintro
    isplitr; · iempintro
    iexact Ho
  isplitl [Hl]; · iexact Hl
  isplitl [Hc]; · iexact Hc
  iexact Ht

/-- The first call on the TensorCore's thread: its results' array ends at the results. -/
theorem call0_wp [∀ e, Nonempty (Elt F e)] (V : Dev nD → Valuation τ sig (Elt F)) (c : Dev nD) (Q : PUnit → sProp 𝕄) :
    iprop((iprop(boundary (c : Thread nD τ) ∗ held (c : Thread nD τ) (ucRefs τ sig) (Call0.after V c) ∗ ∃ W, owes (c : Thread nD τ) 0 W) -∗ Q ⟨⟩)
        ∗ boundary (c : Thread nD τ) ∗ held (c : Thread nD τ) (ucRefs τ sig) (V c) ∗ (∃ W, owes (c : Thread nD τ) 0 W)
        ∗ levAts (K (F := F)).L (K (F := F)).lev ∗ ghost 0 c)
      ⊢ wp frame (wpE ((K (F := F)).defs (D (F := F))) 𝒱 (SparseCore.T c) none) Set.univ
          (Prog.lift (.customCall (SparseCore.inner (Pipeline.entry 0)) ())) Q := by
  have hΦ : ∀ c t, (pdats V V 0 c).Φ t = Pipeline.scopedRest (Pipeline.pin (pcfgs (F := F)) adm 0).spec c := fun c t =>
    (show (pdats V V 0 c).Φ t = Pipeline.scopedRest spec2 c from rfl).trans
      (show Pipeline.scopedRest spec2 c = Pipeline.scopedRest (Pipeline.pin (pcfgs (F := F)) adm 0).spec c from rfl)
  have hrest : ∀ c, ∀ b ∈ ucRefs τ sig \ Pipeline.arrRefs (pcfgs (F := F) 0).spec, V c b = Call0.after V c b :=
    fun c b hb => Call0.after_rest V c b hb
  exact region_wp 0 launch2.toP (pdats V V) (fun c => (Call0.body_obligation V c).loose) (fun _ _ => rfl) (fun _ => rfl)
    (fun c => (Call0.dat V c).share_full fun _ => rfl) hΦ rfl V (Call0.after V) (fun _ _ => rfl)
    (fun c w => Call0.arrAt_after V c w) hrest c Q

/-- The second call on the TensorCore's thread: its results' array ends at the results. -/
theorem call1_wp [∀ e, Nonempty (Elt F e)] (V : Dev nD → Valuation τ sig (Elt F)) (c : Dev nD) (Q : PUnit → sProp 𝕄) :
    iprop((iprop(boundary (c : Thread nD τ) ∗ held (c : Thread nD τ) (ucRefs τ sig) (Call1.after V c) ∗ ∃ W, owes (c : Thread nD τ) 0 W) -∗ Q ⟨⟩)
        ∗ boundary (c : Thread nD τ) ∗ held (c : Thread nD τ) (ucRefs τ sig) (V c) ∗ (∃ W, owes (c : Thread nD τ) 0 W)
        ∗ levAts (K (F := F)).L (K (F := F)).lev ∗ ghost 1 c)
      ⊢ wp frame (wpE ((K (F := F)).defs (D (F := F))) 𝒱 (SparseCore.T c) none) Set.univ
          (Prog.lift (.customCall (SparseCore.inner (Pipeline.entry 1)) ())) Q := by
  have hΦ : ∀ c t, (pdats V V 1 c).Φ t = Pipeline.scopedRest (Pipeline.pin (pcfgs (F := F)) adm 1).spec c := fun c t =>
    (show (pdats V V 1 c).Φ t = Pipeline.scopedRest spec3 c from rfl).trans
      (show Pipeline.scopedRest spec3 c = Pipeline.scopedRest (Pipeline.pin (pcfgs (F := F)) adm 1).spec c from rfl)
  have hrest : ∀ c, ∀ b ∈ ucRefs τ sig \ Pipeline.arrRefs (pcfgs (F := F) 1).spec, V c b = Call1.after V c b :=
    fun c b hb => Call1.after_rest V c b hb
  exact region_wp 1 launch3.toP (pdats V V) (fun c => (Call1.body_obligation V c).loose) (fun _ _ => rfl) (fun _ => rfl)
    (fun c => (Call1.dat V c).share_full fun _ => rfl) hΦ rfl V (Call1.after V) (fun _ _ => rfl)
    (fun c w => Call1.arrAt_after V c w) hrest c Q

end Cert.Proof.Recommender

end
-- ==== Proof.Split.lean ====
/-
  The gather calls on the TensorCore's thread.

  The tiles' parts of a call's arrays make up the whole arrays: every tile's share of an array all of them read, and every
  tile's rows of an output. So a call is entered with every buffer of the thread held at a valuation, and left with them
  held at the valuation that has the two outputs replaced by the gathered rows.
-/
module

public import proofs.«01_k».proof.Proof.Calls
public import Idealize.ShloMosaic.Lib.SparseCore.Threads
public import Idealize.ShloMosaic.Lib.SparseCore.Quiescent
public import Idealize.ShloMosaic.Lib.Pipeline.Frame
public import Idealize.ShloMosaic.Lib.Pipeline.Kit

@[expose] public section

noncomputable section

namespace Cert.Proof.Recommender

open Cert.KernelIdeal Cert.KernelIdeal.Gen

open Idealize.ShloMosaic Idealize.ShloMosaic.Tactic
open Idealize.ShloMosaic.SparseCore.Cfg (HIx Pay)
open Idealize.ShloMosaic.Transfers
open Idealize.ShloMosaic.Pipeline (ucRefs)
open Idealize.ShloMosaic.StableHlo (held)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MM F

/-! ## The tiles' parts make up the arrays -/

/-- An array every tile reads, dealt to the tiles. -/
theorem shares_split (ℓ : Loc nD τ sig) (f : Buf (Elt F) ℓ) :
    (ℓ ↦{fullShare} f : sProp 𝕄) = bigSep Finset.univ fun c : Fin 2 => bigSep Finset.univ fun i : Fin 16 => ℓ ↦{tq c i} f := by
  rw [pointsTo_deal Finset.univ ⟨(0 : Fin 2), Finset.mem_univ _⟩ fullShare]
  exact bigSep_congr fun c _ => pointsTo_deal Finset.univ ⟨(0 : Fin 16), Finset.mem_univ _⟩ _

/-- An array cut into the tiles' own parts. -/
theorem parts_split (ℓ : Loc nD τ sig) (R : Fin 2 → Fin 16 → Finset (Idx ℓ))
    (hd : ∀ c i c' i' y, y ∈ R c i → y ∈ R c' i' → c = c' ∧ i = i') (hc : ∀ y, ∃ c i, y ∈ R c i) (f : Buf (Elt F) ℓ) :
    (ℓ ↦{fullShare} f : sProp 𝕄) = bigSep Finset.univ fun c : Fin 2 => bigSep Finset.univ fun i : Fin 16 => ℓ ↦[R c i]{fullShare} f := by
  have hu : (Finset.univ : Finset (Idx ℓ)) = Finset.univ.biUnion fun c => Finset.univ.biUnion fun i => R c i := by
    ext y
    obtain ⟨c, i, h⟩ := hc y
    simp only [Finset.mem_univ, Finset.mem_biUnion, true_and, true_iff]
    exact ⟨c, i, h⟩
  rw [hu, pointsTo_biUnion]
  · refine bigSep_congr fun c _ => pointsTo_biUnion _ _ fun i _ i' _ hne => Finset.disjoint_left.mpr fun y h h' => hne (hd c i c i' y h h').2
  · intro c _ c' _ hne
    refine Finset.disjoint_left.mpr fun y h h' => ?_
    obtain ⟨i, -, h⟩ := Finset.mem_biUnion.mp h
    obtain ⟨i', -, h'⟩ := Finset.mem_biUnion.mp h'
    exact hne (hd c i c' i' y h h').1

/-- A row is one tile's only, -/
theorem rowsOf_disjoint (c : Fin 2) (i : Fin 16) (c' : Fin 2) (i' : Fin 16) (y : S8192x128.Idx) (h : y ∈ rowsOf c i) (h' : y ∈ rowsOf c' i') :
    c = c' ∧ i = i' := by
  have h := (Finset.mem_filter.mp h).2
  have h' := (Finset.mem_filter.mp h').2
  exact ⟨Fin.ext (by omega), Fin.ext (by omega)⟩

/-- and every row is some tile's. -/
theorem rowsOf_cover (y : S8192x128.Idx) : ∃ c i, y ∈ rowsOf c i := by
  have hy : (y 0).val < 8192 := (y 0).isLt
  refine ⟨⟨(y 0).val / 256 % 2, by omega⟩, ⟨(y 0).val / 512, by omega⟩, Finset.mem_filter.mpr ⟨Finset.mem_univ _, ?_⟩⟩
  show (y 0).val / 256 = 2 * ((y 0).val / 512) + (y 0).val / 256 % 2
  omega

variable (m : (ℓ : Loc nD τ sig) → Buf (Elt F) ℓ)

/-- The arrays of a call: the numbers, the tables and two outputs. -/
def whole (d : Dev nD) (o p : Ref sig .tc) (f : Buf (Elt F) (tl d o)) (g : Buf (Elt F) (tl d p)) : sProp 𝕄 :=
  iprop(((tl d main_arg0 ↦{fullShare} m (tl d main_arg0)) ∗ (tl d main_arg1 ↦{fullShare} m (tl d main_arg1))
    ∗ (tl d main_arg2 ↦{fullShare} m (tl d main_arg2)) ∗ (tl d main_arg3 ↦{fullShare} m (tl d main_arg3)))
    ∗ (tl d o ↦{fullShare} f) ∗ (tl d p ↦{fullShare} g))

/-- The first call's arrays are its tiles' parts, -/
theorem whole_split0 (d : Dev nD) (f g : S8192x128.Idx → F .f32) :
    whole m d main_v11_0 main_v11_1 f g
      = bigSep Finset.univ fun c : Fin 2 => bigSep Finset.univ fun i : Fin 16 => iprop(inputs m d c i ∗ outs0 d c i f g) := by
  unfold whole
  rw [shares_split (tl d main_arg0), shares_split (tl d main_arg1), shares_split (tl d main_arg2), shares_split (tl d main_arg3),
    parts_split (tl d main_v11_0) rowsOf rowsOf_disjoint rowsOf_cover, parts_split (tl d main_v11_1) rowsOf rowsOf_disjoint rowsOf_cover]
  simp only [← bigSep_sep']

/-- and so are the second's. -/
theorem whole_split1 (d : Dev nD) (f g : S8192x128.Idx → F .f32) :
    whole m d main_v12_0 main_v12_1 f g
      = bigSep Finset.univ fun c : Fin 2 => bigSep Finset.univ fun i : Fin 16 => iprop(inputs m d c i ∗ outs1 d c i f g) := by
  unfold whole
  rw [shares_split (tl d main_arg0), shares_split (tl d main_arg1), shares_split (tl d main_arg2), shares_split (tl d main_arg3),
    parts_split (tl d main_v12_0) rowsOf rowsOf_disjoint rowsOf_cover, parts_split (tl d main_v12_1) rowsOf rowsOf_disjoint rowsOf_cover]
  simp only [← bigSep_sep']

/-! ## A call among every buffer of the thread -/

/-- The six arrays of a call with outputs `o` and `p`. -/
abbrev six (o p : Ref sig .tc) : List (DevRef τ sig) := [main_arg0, main_arg1, main_arg2, main_arg3, o, p].map (Proc.devRef .tc)

/-- Resources grouped to the left, regrouped to the right. -/
theorem sep_regroup (A B C : sProp 𝕄) : iprop((A ∗ B) ∗ C) = iprop(A ∗ B ∗ C) := BI.equiv_iff.mp ⟨BI.sep_assoc, BI.sep_assoc'⟩

/-- A call's six arrays, held. -/
theorem held_six (d : Dev nD) (o p : Ref sig .tc) (V : Valuation τ sig (Elt F))
    (h0 : V (Proc.devRef .tc main_arg0) = m (tl d main_arg0)) (h1 : V (Proc.devRef .tc main_arg1) = m (tl d main_arg1))
    (h2 : V (Proc.devRef .tc main_arg2) = m (tl d main_arg2)) (h3 : V (Proc.devRef .tc main_arg3) = m (tl d main_arg3))
    (hn : [main_arg0, main_arg1, main_arg2, main_arg3, o, p].Nodup) :
    (held (SparseCore.T d) (six o p).toFinset V : sProp 𝕄)
      = whole m d o p (V (Proc.devRef .tc o)) (V (Proc.devRef .tc p)) := by
  unfold held whole
  rw [← h0, ← h1, ← h2, ← h3, bigSep_eq_bigSepL_of_eq (six o p) rfl (hn.map (Proc.devRef_injective _)),
    sep_regroup, sep_regroup, sep_regroup]
  rfl

/-- The valuation after a call: its two outputs replaced. -/
abbrev replaced (V : Valuation τ sig (Elt F)) (o p : Ref sig .tc) (G : (Proc.devRef (τ := τ) .tc o).ty.Contents (Elt F))
    (H : (Proc.devRef (τ := τ) .tc p).ty.Contents (Elt F)) : Valuation τ sig (Elt F) :=
  Function.update (Function.update V (Proc.devRef .tc o) G) (Proc.devRef .tc p) H

variable [FloatOps F]

/-- A gather call on the TensorCore's thread, among every buffer the thread holds. -/
theorem gather_wp (κ : GSem nD τ sig → ℕ) (d : Dev nD) (q : Fin 2) (o p : Ref sig .tc) (V : Valuation τ sig (Elt F))
    (G : (Proc.devRef (τ := τ) .tc o).ty.Contents (Elt F)) (H : (Proc.devRef (τ := τ) .tc p).ty.Contents (Elt F))
    (h0 : V (Proc.devRef .tc main_arg0) = m (tl d main_arg0)) (h1 : V (Proc.devRef .tc main_arg1) = m (tl d main_arg1))
    (h2 : V (Proc.devRef .tc main_arg2) = m (tl d main_arg2)) (h3 : V (Proc.devRef .tc main_arg3) = m (tl d main_arg3))
    (hn : [main_arg0, main_arg1, main_arg2, main_arg3, o, p].Nodup)
    (hne : ∀ b ∈ [main_arg0, main_arg1, main_arg2, main_arg3], b ≠ o ∧ b ≠ p) (hop : o ≠ p) (hu : (six o p).toFinset ⊆ ucRefs τ sig)
    (hst : whole m d o p (V (Proc.devRef .tc o)) (V (Proc.devRef .tc p))
      = bigSep Finset.univ fun c : Fin ((K (F := F)).nCore q) => (P m).st q d c)
    (hdn : whole m d o p G H = bigSep Finset.univ fun c : Fin ((K (F := F)).nCore q) => (P m).dn q d c) (Φ : PUnit → sProp 𝕄) :
    iprop((K (F := F)).ctx EH (P m) κ ∗ (K (F := F)).tcSt EH d q.val ∗ held (SparseCore.T d) (ucRefs τ sig) V
        ∗ (((K (F := F)).tcSt EH d (q.val + 1) ∗ held (SparseCore.T d) (ucRefs τ sig) (replaced V o p G H)) -∗ Φ ⟨⟩))
      ⊢ wp frame (wpE ((K (F := F)).defs (D (F := F))) 𝒱 (SparseCore.T d) none) Set.univ ((K (F := F)).run d q) Φ := by
  have hkeep : ∀ b ∈ [main_arg0, main_arg1, main_arg2, main_arg3], replaced V o p G H (Proc.devRef .tc b) = V (Proc.devRef .tc b) := fun b hb => by
    rw [replaced, Function.update_of_ne fun e => (hne b hb).2 (Proc.devRef_injective _ e),
      Function.update_of_ne fun e => (hne b hb).1 (Proc.devRef_injective _ e)]
  have hrest : ∀ b ∈ ucRefs τ sig \ (six o p).toFinset, replaced V o p G H b = V b := fun b hb => by
    have hb := (Finset.mem_sdiff.mp hb).2
    rw [replaced, Function.update_of_ne, Function.update_of_ne]
    · rintro rfl; exact hb (List.mem_toFinset.mpr (.tail _ (.tail _ (.tail _ (.tail _ (.head _))))))
    · rintro rfl; exact hb (List.mem_toFinset.mpr (.tail _ (.tail _ (.tail _ (.tail _ (.tail _ (.head _)))))))
  rw [StableHlo.held_sub_split (SparseCore.T d) hu V, StableHlo.held_sub_split (SparseCore.T d) hu (replaced V o p G H),
    StableHlo.held_congr (SparseCore.T d) hrest, held_six m d o p V h0 h1 h2 h3 hn,
    held_six m d o p (replaced V o p G H) ((hkeep _ (.head _)).trans h0) ((hkeep _ (.tail _ (.head _))).trans h1)
      ((hkeep _ (.tail _ (.tail _ (.head _)))).trans h2) ((hkeep _ (.tail _ (.tail _ (.tail _ (.head _))))).trans h3) hn,
    show replaced V o p G H (Proc.devRef .tc p) = H from Function.update_self _ _ _,
    show replaced V o p G H (Proc.devRef .tc o) = G from
      (Function.update_of_ne (fun e => hop (Proc.devRef_injective _ e)) _ _).trans (Function.update_self _ _ _), hst, hdn]
  iintro ⟨#Hctx, Hst, ⟨Hw, Hr⟩, Hk⟩
  iapply ((K (F := F)).wp_run (D (F := F)) 𝒱 (EH := EH) (P := P m) κ d q) $$ [Hst Hw Hr Hk]
  isplitr; · iexact Hctx
  isplitl [Hst]; · iexact Hst
  isplitl [Hw]; · iexact Hw
  iintro ⟨Hst, Hdn⟩
  iapply Hk
  isplitl [Hst]; · iexact Hst
  isplitl [Hdn]; · iexact Hdn
  iexact Hr

/-- The buffers after the first call: the rows that the first 8192 numbers name. -/
abbrev gathered0 (d : Dev nD) (V : Valuation τ sig (Elt F)) : Valuation τ sig (Elt F) :=
  replaced V main_v11_0 main_v11_1 (users m d 0 (by norm_num)) (items m d 0 (by norm_num))

/-- The buffers after the second call: the rows that the last 8192 numbers name. -/
abbrev gathered1 (d : Dev nD) (V : Valuation τ sig (Elt F)) : Valuation τ sig (Elt F) :=
  replaced V main_v12_0 main_v12_1 (users m d 8192 (by norm_num)) (items m d 8192 (by norm_num))

/-- The arguments and outputs of the gather calls hold what they held at launch. -/
structure Fresh (d : Dev nD) (V : Valuation τ sig (Elt F)) (o p : Ref sig .tc) : Prop where
  arg0 : V (Proc.devRef .tc main_arg0) = m (tl d main_arg0)
  arg1 : V (Proc.devRef .tc main_arg1) = m (tl d main_arg1)
  arg2 : V (Proc.devRef .tc main_arg2) = m (tl d main_arg2)
  arg3 : V (Proc.devRef .tc main_arg3) = m (tl d main_arg3)
  out0 : V (Proc.devRef .tc o) = m (tl d o)
  out1 : V (Proc.devRef .tc p) = m (tl d p)

/-- The first gather call. -/
theorem gather0_wp (κ : GSem nD τ sig → ℕ) (d : Dev nD) (V : Valuation τ sig (Elt F)) (h : Fresh m d V main_v11_0 main_v11_1) (Φ : PUnit → sProp 𝕄) :
    iprop((K (F := F)).ctx EH (P m) κ ∗ (K (F := F)).tcSt EH d 0 ∗ held (SparseCore.T d) (ucRefs τ sig) V
        ∗ (((K (F := F)).tcSt EH d 1 ∗ held (SparseCore.T d) (ucRefs τ sig) (gathered0 m d V)) -∗ Φ ⟨⟩))
      ⊢ wp frame (wpE ((K (F := F)).defs (D (F := F))) 𝒱 (SparseCore.T d) none) Set.univ ((K (F := F)).run d 0) Φ :=
  gather_wp m κ d 0 main_v11_0 main_v11_1 V _ _ h.arg0 h.arg1 h.arg2 h.arg3 (by decide) (by decide) (by decide) (by decide)
    (by rw [h.out0, h.out1]; exact whole_split0 m d _ _) (whole_split0 m d _ _) Φ

/-- The second gather call. -/
theorem gather1_wp (κ : GSem nD τ sig → ℕ) (d : Dev nD) (V : Valuation τ sig (Elt F)) (h : Fresh m d V main_v12_0 main_v12_1) (Φ : PUnit → sProp 𝕄) :
    iprop((K (F := F)).ctx EH (P m) κ ∗ (K (F := F)).tcSt EH d 1 ∗ held (SparseCore.T d) (ucRefs τ sig) V
        ∗ (((K (F := F)).tcSt EH d 2 ∗ held (SparseCore.T d) (ucRefs τ sig) (gathered1 m d V)) -∗ Φ ⟨⟩))
      ⊢ wp frame (wpE ((K (F := F)).defs (D (F := F))) 𝒱 (SparseCore.T d) none) Set.univ ((K (F := F)).run d 1) Φ :=
  gather_wp m κ d 1 main_v12_0 main_v12_1 V _ _ h.arg0 h.arg1 h.arg2 h.arg3 (by decide) (by decide) (by decide) (by decide)
    (by rw [h.out0, h.out1]; exact whole_split1 m d _ _) (whole_split1 m d _ _) Φ

end Cert.Proof.Recommender

end
-- ==== Proof.Steps.lean ====
/-
  The whole program's buffers, from launch to end.

  The TensorCore prepares the weights, makes the two gather calls and the two network calls, and joins the results. The
  valuations below follow the thread's buffers through these steps, and the last section reads the arguments and the
  result off the last one.
-/
module

public import proofs.«01_k».proof.Proof.Split
public import proofs.«01_k».proof.Proof.Dense0
public import proofs.«01_k».proof.Proof.Dense1
public import Idealize.ShloMosaic.Lib.StableHlo.Run

@[expose] public section

noncomputable section

namespace Cert.Proof.Recommender

open Cert.KernelIdeal Cert.KernelIdeal.Gen

open Idealize.ShloMosaic Idealize.ShloMosaic.Tactic
open Idealize.ShloMosaic.SparseCore.Cfg (HIx Pay)
open Idealize.ShloMosaic.Pipeline (ucRefs)
open Idealize.ShloMosaic.StableHlo (held)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## The host's operations -/

/-- The weights' preparation: narrowed, and the vectors made rows. -/
def prep : List (HloOp τ sig (Elt F)) :=
  [ StableHlo.unary main_arg4 main_v0 ((truncf .bf16 · bitsLt_bf16_f32) : (⟨S256x1024, .f32⟩ : BufTy).Contents (Elt F) → (⟨S256x1024, .bf16⟩ : BufTy).Contents (Elt F)),
    StableHlo.reshape main_arg5 main_v1 (rfl : (.f32 : EltTy) = .f32) shapeCasts_S1024_S1x1024,
    StableHlo.unary main_v1 main_v2 ((truncf .bf16 · bitsLt_bf16_f32) : (⟨S1x1024, .f32⟩ : BufTy).Contents (Elt F) → (⟨S1x1024, .bf16⟩ : BufTy).Contents (Elt F)),
    StableHlo.unary main_arg6 main_v3 ((truncf .bf16 · bitsLt_bf16_f32) : (⟨S1024x128, .f32⟩ : BufTy).Contents (Elt F) → (⟨S1024x128, .bf16⟩ : BufTy).Contents (Elt F)),
    StableHlo.reshape main_arg7 main_v4 (rfl : (.f32 : EltTy) = .f32) shapeCasts_S128_S1x128,
    StableHlo.unary main_v4 main_v5 ((truncf .bf16 · bitsLt_bf16_f32) : (⟨S1x128, .f32⟩ : BufTy).Contents (Elt F) → (⟨S1x128, .bf16⟩ : BufTy).Contents (Elt F)),
    StableHlo.unary main_arg8 main_v6 ((truncf .bf16 · bitsLt_bf16_f32) : (⟨S128x1024, .f32⟩ : BufTy).Contents (Elt F) → (⟨S128x1024, .bf16⟩ : BufTy).Contents (Elt F)),
    StableHlo.reshape main_arg9 main_v7 (rfl : (.f32 : EltTy) = .f32) shapeCasts_S1024_S1x1024,
    StableHlo.unary main_v7 main_v8 ((truncf .bf16 · bitsLt_bf16_f32) : (⟨S1x1024, .f32⟩ : BufTy).Contents (Elt F) → (⟨S1x1024, .bf16⟩ : BufTy).Contents (Elt F)),
    StableHlo.reshape main_arg10 main_v9 (rfl : (.f32 : EltTy) = .f32) shapeCasts_S1024x1_S1x1024,
    StableHlo.reshape main_arg11 main_v10 (rfl : (.f32 : EltTy) = .f32) shapeCasts_S1_S1x1 ]

/-- The results of both halves joined. -/
def join : List (HloOp τ sig (Elt F)) :=
  [ StableHlo.binary main_v13 main_v14 main_v15 ((fun a b => concatenate S16384x1 0 [⟨S8192x1, a⟩, ⟨S8192x1, b⟩] concatenates_S8192x1_S8192x1_S16384x1_d0) : (⟨S8192x1, .f32⟩ : BufTy).Contents (Elt F) → (⟨S8192x1, .f32⟩ : BufTy).Contents (Elt F) → (⟨S16384x1, .f32⟩ : BufTy).Contents (Elt F)),
    StableHlo.reshape main_v15 main_v16 (rfl : (.f32 : EltTy) = .f32) shapeCasts_S16384x1_S16384 ]

/-- The program after the preparation. -/
def calls (d : Dev nD) : Prog (TpuEff nD τ sig (Elt F) (SparseCore.Sig (ΛP (F := F)) 2) .tc) PUnit := do
  sc.run d 0
  sc.run d 1
  Prog.lift (.customCall (SparseCore.inner (Pipeline.entry 0)) ())
  Prog.lift (.customCall (SparseCore.inner (Pipeline.entry 1)) ())
  StableHlo.seq join
  pure ⟨⟩

theorem main_eq (d : Dev nD) : main (F := F) d = (StableHlo.seq prep >>= fun _ => calls d) := by
  unfold main calls prep join
  simp only [StableHlo.seq, bind_assoc, pure_bind]

theorem prep_bufs : ∀ op ∈ prep (F := F), op.bufs ⊆ ucRefs τ sig := by
  intro op h
  refine Pipeline.sub_ucRefs op ?_
  revert op
  unfold prep
  simp only [List.mem_cons, List.not_mem_nil, or_false, forall_eq_or_imp, forall_eq, StableHlo.unary_bufs_sub, StableHlo.reshape_bufs_sub, and_self]

theorem join_bufs : ∀ op ∈ join (F := F), op.bufs ⊆ ucRefs τ sig := by
  intro op h
  refine Pipeline.sub_ucRefs op ?_
  revert op
  unfold join
  simp only [List.mem_cons, List.not_mem_nil, or_false, forall_eq_or_imp, forall_eq, StableHlo.binary_bufs_sub, StableHlo.reshape_bufs_sub, and_self]

theorem prep_fresh : ∀ op ∈ prep (F := F), op.fresh = ∅ := by
  unfold prep
  simp only [List.mem_cons, List.not_mem_nil, or_false, forall_eq_or_imp, forall_eq]
  exact ⟨rfl, rfl, rfl, rfl, rfl, rfl, rfl, rfl, rfl, rfl, rfl⟩

theorem join_fresh : ∀ op ∈ join (F := F), op.fresh = ∅ := by
  unfold join
  simp only [List.mem_cons, List.not_mem_nil, or_false, forall_eq_or_imp, forall_eq]
  exact ⟨rfl, rfl⟩

/-! ## The buffers, step by step -/

section Steps

variable (m : (ℓ : Loc nD τ sig) → Buf (Elt F) ℓ)

/-- At launch, -/
def V0 (d : Dev nD) : Valuation τ sig (Elt F) := fun b => m (d, b)
/-- with the weights prepared, -/
def V1 (d : Dev nD) : Valuation τ sig (Elt F) := StableHlo.after prep (V0 m d)
/-- after the gather calls, -/
def V2 (d : Dev nD) : Valuation τ sig (Elt F) := gathered0 m d (V1 m d)
def V3 (d : Dev nD) : Valuation τ sig (Elt F) := gathered1 m d (V2 m d)
/-- after the network calls, -/
def V4 : Dev nD → Valuation τ sig (Elt F) := Call0.after (V3 m)
def V5 : Dev nD → Valuation τ sig (Elt F) := Call1.after (V4 m)
/-- and at the end. -/
def V6 (d : Dev nD) : Valuation τ sig (Elt F) := StableHlo.after join (V5 m d)

/-- The preparation leaves alone every buffer but the eleven it writes, -/
theorem V1_keep (d : Dev nD) (b : Ref sig .tc)
    (hb : b ∉ [main_v0, main_v1, main_v2, main_v3, main_v4, main_v5, main_v6, main_v7, main_v8, main_v9, main_v10]) :
    V1 m d (Proc.devRef .tc b) = m (tl d b) :=
  StableHlo.after_of_writes_sub prep (V0 m d) (StableHlo.forall_writes_sub_of_map rfl) hb

/-- a gather call every buffer but its two results, -/
theorem replaced_keep (V : Valuation τ sig (Elt F)) {o p b : Ref sig .tc} (G : (Proc.devRef (τ := τ) .tc o).ty.Contents (Elt F))
    (H : (Proc.devRef (τ := τ) .tc p).ty.Contents (Elt F)) (ho : b ≠ o) (hp : b ≠ p) :
    replaced V o p G H (Proc.devRef .tc b) = V (Proc.devRef .tc b) := by
  unfold replaced
  rw [Function.update_of_ne (StableHlo.devRef_ne_of_ne hp), Function.update_of_ne (StableHlo.devRef_ne_of_ne ho)]

theorem V2_keep (d : Dev nD) (b : Ref sig .tc) (ho : b ≠ main_v11_0) (hp : b ≠ main_v11_1) :
    V2 m d (Proc.devRef .tc b) = V1 m d (Proc.devRef .tc b) := replaced_keep _ _ _ ho hp

theorem V3_keep (d : Dev nD) (b : Ref sig .tc) (ho : b ≠ main_v12_0) (hp : b ≠ main_v12_1) :
    V3 m d (Proc.devRef .tc b) = V2 m d (Proc.devRef .tc b) := replaced_keep _ _ _ ho hp

/-- a network call every buffer but its result, -/
theorem V4_keep (d : Dev nD) (b : Ref sig .tc) (h : b ≠ main_v13) : V4 m d (Proc.devRef .tc b) = V3 m d (Proc.devRef .tc b) :=
  Function.update_of_ne (StableHlo.devRef_ne_of_ne h) _ _

theorem V5_keep (d : Dev nD) (b : Ref sig .tc) (h : b ≠ main_v14) : V5 m d (Proc.devRef .tc b) = V4 m d (Proc.devRef .tc b) :=
  Function.update_of_ne (StableHlo.devRef_ne_of_ne h) _ _

/-- and the joining every buffer but its two. -/
theorem V6_keep (d : Dev nD) (b : Ref sig .tc) (h : b ∉ [main_v15, main_v16]) :
    V6 m d (Proc.devRef .tc b) = V5 m d (Proc.devRef .tc b) :=
  StableHlo.after_of_writes_sub join (V5 m d) (StableHlo.forall_writes_sub_of_map rfl) h

/-- The first gather call finds its arrays as at launch, -/
theorem fresh0 (d : Dev nD) : Fresh m d (V1 m d) main_v11_0 main_v11_1 where
  arg0 := V1_keep m d _ (by decide)
  arg1 := V1_keep m d _ (by decide)
  arg2 := V1_keep m d _ (by decide)
  arg3 := V1_keep m d _ (by decide)
  out0 := V1_keep m d _ (by decide)
  out1 := V1_keep m d _ (by decide)

/-- and the second its own. -/
theorem fresh1 (d : Dev nD) : Fresh m d (V2 m d) main_v12_0 main_v12_1 where
  arg0 := (V2_keep m d _ (by decide) (by decide)).trans (V1_keep m d _ (by decide))
  arg1 := (V2_keep m d _ (by decide) (by decide)).trans (V1_keep m d _ (by decide))
  arg2 := (V2_keep m d _ (by decide) (by decide)).trans (V1_keep m d _ (by decide))
  arg3 := (V2_keep m d _ (by decide) (by decide)).trans (V1_keep m d _ (by decide))
  out0 := (V2_keep m d _ (by decide) (by decide)).trans (V1_keep m d _ (by decide))
  out1 := (V2_keep m d _ (by decide) (by decide)).trans (V1_keep m d _ (by decide))

/-! ## What the last valuation holds -/

/-- No argument is ever written. -/
theorem V6_arg (d : Dev nD) (b : Ref sig .tc)
    (hb : b ∉ [main_v0, main_v1, main_v2, main_v3, main_v4, main_v5, main_v6, main_v7, main_v8, main_v9, main_v10,
      main_v11_0, main_v11_1, main_v12_0, main_v12_1, main_v13, main_v14, main_v15, main_v16]) :
    V6 m d (Proc.devRef .tc b) = m (tl d b) := by
  simp only [List.mem_cons, List.not_mem_nil, or_false, not_or] at hb
  obtain ⟨h0, h1, h2, h3, h4, h5, h6, h7, h8, h9, h10, h11, h11', h12, h12', h13, h14, h15, h16⟩ := hb
  rw [V6_keep m d b (by simp only [List.mem_cons, List.not_mem_nil, or_false, not_or]; exact ⟨h15, h16⟩),
    V5_keep m d b h14, V4_keep m d b h13, V3_keep m d b h12 h12', V2_keep m d b h11 h11',
    V1_keep m d b (by simp only [List.mem_cons, List.not_mem_nil, or_false, not_or]; exact ⟨h0, h1, h2, h3, h4, h5, h6, h7, h8, h9, h10⟩)]

/-- The network on one half of the batch, from the program's arguments. -/
def half (d : Dev nD) (base : ℕ) (hb : base + 8192 ≤ 16384) : Vec F S8192x1 .f32 :=
  dense (users m d base hb) (items m d base hb)
    (truncf .bf16 (m (tl d main_arg4) : Vec F S256x1024 .f32) bitsLt_bf16_f32)
    (truncf .bf16 (shapeCast S1x1024 (m (tl d main_arg5) : Vec F S1024 .f32) shapeCasts_S1024_S1x1024) bitsLt_bf16_f32)
    (truncf .bf16 (m (tl d main_arg6) : Vec F S1024x128 .f32) bitsLt_bf16_f32)
    (truncf .bf16 (shapeCast S1x128 (m (tl d main_arg7) : Vec F S128 .f32) shapeCasts_S128_S1x128) bitsLt_bf16_f32)
    (truncf .bf16 (m (tl d main_arg8) : Vec F S128x1024 .f32) bitsLt_bf16_f32)
    (truncf .bf16 (shapeCast S1x1024 (m (tl d main_arg9) : Vec F S1024 .f32) shapeCasts_S1024_S1x1024) bitsLt_bf16_f32)
    (shapeCast S1x1024 (m (tl d main_arg10) : Vec F S1024x1 .f32) shapeCasts_S1024x1_S1x1024)
    (shapeCast S1x1 (m (tl d main_arg11) : Vec F S1 .f32) shapeCasts_S1_S1x1)

/-- What the program leaves in its result. -/
def scores (d : Dev nD) : Vec F S16384 .f32 :=
  shapeCast S16384 (concatenate S16384x1 0 [⟨S8192x1, half m d 0 (by norm_num)⟩, ⟨S8192x1, half m d 8192 (by norm_num)⟩]
    concatenates_S8192x1_S8192x1_S16384x1_d0 : Vec F S16384x1 .f32) shapeCasts_S16384x1_S16384

/-! The prepared weights: -/

theorem V1_v0 (d : Dev nD) : V1 m d (Proc.devRef .tc main_v0) = truncf .bf16 (m (tl d main_arg4) : Vec F S256x1024 .f32) bitsLt_bf16_f32 := by
  unfold V1 prep
  after_results_simp
  rfl

theorem V1_v2 (d : Dev nD) : V1 m d (Proc.devRef .tc main_v2) = truncf .bf16 (shapeCast S1x1024 (m (tl d main_arg5) : Vec F S1024 .f32) shapeCasts_S1024_S1x1024) bitsLt_bf16_f32 := by
  unfold V1 prep
  after_results_simp
  rfl

theorem V1_v3 (d : Dev nD) : V1 m d (Proc.devRef .tc main_v3) = truncf .bf16 (m (tl d main_arg6) : Vec F S1024x128 .f32) bitsLt_bf16_f32 := by
  unfold V1 prep
  after_results_simp
  rfl

theorem V1_v5 (d : Dev nD) : V1 m d (Proc.devRef .tc main_v5) = truncf .bf16 (shapeCast S1x128 (m (tl d main_arg7) : Vec F S128 .f32) shapeCasts_S128_S1x128) bitsLt_bf16_f32 := by
  unfold V1 prep
  after_results_simp
  rfl

theorem V1_v6 (d : Dev nD) : V1 m d (Proc.devRef .tc main_v6) = truncf .bf16 (m (tl d main_arg8) : Vec F S128x1024 .f32) bitsLt_bf16_f32 := by
  unfold V1 prep
  after_results_simp
  rfl

theorem V1_v8 (d : Dev nD) : V1 m d (Proc.devRef .tc main_v8) = truncf .bf16 (shapeCast S1x1024 (m (tl d main_arg9) : Vec F S1024 .f32) shapeCasts_S1024_S1x1024) bitsLt_bf16_f32 := by
  unfold V1 prep
  after_results_simp
  rfl

theorem V1_v9 (d : Dev nD) : V1 m d (Proc.devRef .tc main_v9) = shapeCast S1x1024 (m (tl d main_arg10) : Vec F S1024x1 .f32) shapeCasts_S1024x1_S1x1024 := by
  unfold V1 prep
  after_results_simp
  rfl

theorem V1_v10 (d : Dev nD) : V1 m d (Proc.devRef .tc main_v10) = shapeCast S1x1 (m (tl d main_arg11) : Vec F S1 .f32) shapeCasts_S1_S1x1 := by
  unfold V1 prep
  after_results_simp
  rfl

/-- A buffer neither gather call nor the first network call writes is, in the second network call, as prepared. -/
theorem V4_weight (d : Dev nD) (b : Ref sig .tc)
    (hb : b ∉ [main_v11_0, main_v11_1, main_v12_0, main_v12_1, main_v13]) : V4 m d (Proc.devRef .tc b) = V1 m d (Proc.devRef .tc b) := by
  simp only [List.mem_cons, List.not_mem_nil, or_false, not_or] at hb
  obtain ⟨h11, h11', h12, h12', h13⟩ := hb
  rw [V4_keep m d b h13, V3_keep m d b h12 h12', V2_keep m d b h11 h11']

theorem V3_weight (d : Dev nD) (b : Ref sig .tc)
    (hb : b ∉ [main_v11_0, main_v11_1, main_v12_0, main_v12_1, main_v13]) : V3 m d (Proc.devRef .tc b) = V1 m d (Proc.devRef .tc b) := by
  simp only [List.mem_cons, List.not_mem_nil, or_false, not_or] at hb
  obtain ⟨h11, h11', h12, h12', h13⟩ := hb
  rw [V3_keep m d b h12 h12', V2_keep m d b h11 h11']

/-! The gathered rows, where the network calls read them: -/

theorem replaced_fst (V : Valuation τ sig (Elt F)) {o p : Ref sig .tc} (G : (Proc.devRef (τ := τ) .tc o).ty.Contents (Elt F))
    (H : (Proc.devRef (τ := τ) .tc p).ty.Contents (Elt F)) (h : o ≠ p) : replaced V o p G H (Proc.devRef .tc o) = G := by
  unfold replaced
  rw [Function.update_of_ne (StableHlo.devRef_ne_of_ne h), Function.update_self]

theorem replaced_snd (V : Valuation τ sig (Elt F)) {o p : Ref sig .tc} (G : (Proc.devRef (τ := τ) .tc o).ty.Contents (Elt F))
    (H : (Proc.devRef (τ := τ) .tc p).ty.Contents (Elt F)) : replaced V o p G H (Proc.devRef .tc p) = H := by
  unfold replaced
  rw [Function.update_self]

theorem V3_v11_0 (d : Dev nD) : V3 m d (Proc.devRef .tc main_v11_0) = users m d 0 (by norm_num) :=
  (V3_keep m d _ (by decide) (by decide)).trans (replaced_fst _ _ _ (by decide))
theorem V3_v11_1 (d : Dev nD) : V3 m d (Proc.devRef .tc main_v11_1) = items m d 0 (by norm_num) :=
  (V3_keep m d _ (by decide) (by decide)).trans (replaced_snd _ _ _)
theorem V4_v12_0 (d : Dev nD) : V4 m d (Proc.devRef .tc main_v12_0) = users m d 8192 (by norm_num) :=
  (V4_keep m d _ (by decide)).trans (replaced_fst _ _ _ (by decide))
theorem V4_v12_1 (d : Dev nD) : V4 m d (Proc.devRef .tc main_v12_1) = items m d 8192 (by norm_num) :=
  (V4_keep m d _ (by decide)).trans (replaced_snd _ _ _)

/-- The first network call's result, -/
theorem V5_v13 (d : Dev nD) : V5 m d (Proc.devRef .tc main_v13) = half m d 0 (by norm_num) := by
  rw [V5_keep m d _ (by decide)]
  refine (Function.update_self (Proc.devRef (τ := τ) .tc main_v13) (Call0.result (V3 m) d) (V3 m d)).trans ?_
  unfold Call0.result half
  rw [V3_v11_0, V3_v11_1, V3_weight m d main_v0 (by decide), V3_weight m d main_v2 (by decide), V3_weight m d main_v3 (by decide),
    V3_weight m d main_v5 (by decide), V3_weight m d main_v6 (by decide), V3_weight m d main_v8 (by decide),
    V3_weight m d main_v9 (by decide), V3_weight m d main_v10 (by decide),
    V1_v0, V1_v2, V1_v3, V1_v5, V1_v6, V1_v8, V1_v9, V1_v10]

/-- the second's, -/
theorem V5_v14 (d : Dev nD) : V5 m d (Proc.devRef .tc main_v14) = half m d 8192 (by norm_num) := by
  refine (Function.update_self (Proc.devRef (τ := τ) .tc main_v14) (Call1.result (V4 m) d) (V4 m d)).trans ?_
  unfold Call1.result half
  rw [V4_v12_0, V4_v12_1, V4_weight m d main_v0 (by decide), V4_weight m d main_v2 (by decide), V4_weight m d main_v3 (by decide),
    V4_weight m d main_v5 (by decide), V4_weight m d main_v6 (by decide), V4_weight m d main_v8 (by decide),
    V4_weight m d main_v9 (by decide), V4_weight m d main_v10 (by decide),
    V1_v0, V1_v2, V1_v3, V1_v5, V1_v6, V1_v8, V1_v9, V1_v10]

/-- and both joined: the program's result. -/
theorem V6_v16 (d : Dev nD) : V6 m d (Proc.devRef .tc main_v16) = scores m d := by
  unfold V6 join
  after_results_simp
  rw [V5_v13, V5_v14]
  rfl

end Steps

end Cert.Proof.Recommender

end
-- ==== Proof.Launch.lean ====
/-
  The whole program's run.

  The launch's ghost state is the handshakes' and the two pipelines'. On the TensorCore's thread the preparation, the
  gather calls, the network calls and the joining follow each other, every buffer of the thread held throughout.
-/
module

public import proofs.«01_k».proof.Proof.Tiles
public import proofs.«01_k».proof.Proof.Region
public import proofs.«01_k».proof.Proof.Steps
public import Idealize.ShloMosaic.Lib.SparseCore.Quiescent

@[expose] public section

noncomputable section

namespace Cert.Proof.Recommender

open Cert.KernelIdeal Cert.KernelIdeal.Gen

open Idealize.ShloMosaic Idealize.ShloMosaic.Tactic
open Idealize.ShloMosaic.SparseCore.Cfg (HIx Pay)
open Idealize.ShloMosaic.Pipeline (ucRefs)
open Idealize.ShloMosaic.StableHlo (held)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- The handshakes' and the pipelines' ghost state. -/
def u₀ : UU :=
  (initOf (K (F := F)).hsCells (K (F := F)).hsToks,
    (initOf (Pipeline.cells (Pipeline.pin (pcfgs (F := F)) adm) cells_inj) (Pipeline.launchToks (Pipeline.pin (pcfgs (F := F)) adm) cells_inj), 1))

/-- What the launch gives a device beside its handshakes: both pipelines' ghost state. -/
def G (d : Dev nD) : sProp 𝕄 := iprop(ghost (F := F) 0 d ∗ ghost (F := F) 1 d)

/-- Both pipelines' ghost state of every device, regrouped by device. -/
theorem ghosts_eq : iprop((bigSep Finset.univ fun c : Dev nD => bigSep Finset.univ fun p => Pipeline.cellsGhost (Pipeline.pin (pcfgs (F := F)) adm) (EP (F := F)) p c)
      ∗ (bigSep Finset.univ fun c : Dev nD => bigSep Finset.univ fun p => (Pipeline.toksInit (Pipeline.pin (pcfgs (F := F)) adm) (EP (F := F)) p c : sProp 𝕄)))
    ⊢ (bigSep Finset.univ (G (F := F)) : sProp 𝕄) := by
  have hG : G (F := F) = fun d : Dev nD => (bigSep Finset.univ fun p : Fin 2 => ghost (F := F) p d : sProp 𝕄) := by
    funext d
    exact (BI.bigSep_fin_two fun p : Fin 2 => ghost (F := F) p d).symm
  rw [hG]
  unfold ghost
  refine (Entails.of_eq (BI.bigSep_sep _ _ _).symm).trans ?_
  exact BI.bigSep_mono fun d _ => Entails.of_eq (BI.bigSep_sep _ _ _).symm

section Launch

variable (m : (ℓ : Loc nD τ sig) → Buf (Elt F) ℓ) (ρ : Dev nD → PrngReg)

/-- What the launch deals out. -/
theorem deal : iprop(ownU (u₀ (F := F)) ∗ (P m).oxCred ∗ (K (F := F)).freeOn (· ∈ (∅ : Finset (GSem nD τ sig))))
    ⊢ (|={Set.univ}=> iprop(BI.own (EH (initOf (K (F := F)).hsCells (K (F := F)).hsToks)) ∗ bigSep Finset.univ (G (F := F))
      ∗ bigSep Finset.univ fun thr : Thread nD τ => bigSep Finset.univ fun q : Fin 2 => (P m).x q thr) : sProp 𝕄) := by
  have hx : (iprop(BI.emp) : sProp 𝕄) = bigSep Finset.univ fun thr : Thread nD τ => bigSep Finset.univ fun q : Fin 2 => (P m).x q thr := by
    have h1 : (bigSep Finset.univ fun q : Fin 2 => (iprop(BI.emp) : sProp 𝕄)) = iprop(BI.emp) := BI.bigSep_emp_const _
    have h2 : (bigSep Finset.univ fun thr : Thread nD τ => (iprop(BI.emp) : sProp 𝕄)) = iprop(BI.emp) := BI.bigSep_emp_const _
    show _ = bigSep Finset.univ fun thr : Thread nD τ => bigSep Finset.univ fun q : Fin 2 => (iprop(BI.emp) : sProp 𝕄)
    rw [h1, h2]
  unfold u₀
  iintro ⟨Hu, -, -⟩
  ihave H := (ownU_pair _ _) $$ Hu
  icases H with ⟨Hh, Hr⟩
  ihave H := (own_pair_emb embR _ _) $$ Hr
  icases H with ⟨Hp, -⟩
  imod (Pipeline.fund_ghost (Pipeline.pin (pcfgs (F := F)) adm) EP cells_inj) $$ Hp with H
  imodintro
  isplitl [Hh]; · iexact Hh
  isplitl [H]; · iapply ghosts_eq $$ H
  iapply (Entails.of_eq hx)
  iempintro

/-- With both calls made, the TensorCore owes the SparseCores nothing, whatever waits it has recorded; this much of its
    state may be lent to a network call. -/
theorem lend (d : Dev nD) : ((K (F := F)).tcSt EH d 2 : sProp 𝕄)
    ⊢ iprop((∃ W, owes (SparseCore.T d) 0 W) ∗ ((∃ W, owes (SparseCore.T d) 0 W) -∗ (K (F := F)).tcSt EH d 2)) := by
  have hb : ∀ W, (K (F := F)).WBelow (SparseCore.T d) W (8 * 2) := by
    intro W p _
    match p with
    | (g, none) => exact Nat.zero_le _
    | (g, some q) => exact ((K (F := F)).lev_some_le _ q).trans (by have := q.isLt; omega)
  have ho : (K (F := F)).Otc d 2 = 0 := by
    unfold SparseCore.Cfg.Otc
    exact Finset.sum_eq_zero fun q _ => if_neg (by have := q.isLt; omega)
  unfold SparseCore.Cfg.tcSt
  rw [ho]
  iintro ⟨⟨%W, -, Ho⟩, Hrest⟩
  isplitl [Ho]; · iexists W; iexact Ho
  iintro ⟨%W', Ho⟩
  isplitl [Ho]
  · iexists W'
    isplitr; · ipureintro; exact hb W'
    iexact Ho
  iexact Hrest

/-- The joining, last in the program. -/
theorem join_wp (d : Dev nD) (V : Valuation τ sig (Elt F)) (Φ : PUnit → sProp 𝕄) :
    iprop(boundary (SparseCore.T d) ∗ held (SparseCore.T d) (ucRefs τ sig) V
        ∗ ((boundary (SparseCore.T d) ∗ held (SparseCore.T d) (ucRefs τ sig) (StableHlo.after join V)) -∗ Φ ⟨⟩))
      ⊢ wp frame (wpE ((K (F := F)).defs (D (F := F))) 𝒱 (SparseCore.T d) none) Set.univ (StableHlo.seq join) Φ := by
  iintro ⟨Hb, Hheld, Hk⟩
  rw [← bind_pure (StableHlo.seq (nD := nD) (join (F := F)))]
  iapply (StableHlo.wp_seq 𝒱 none Set.univ d (ucRefs τ sig) (fun u => pure u) join join_bufs join_fresh V) $$ [Hb Hheld]
  · isplitl [Hb] <;> iassumption
  iintro ⟨Hb, Hheld⟩
  rw [wp_pure]
  imodintro
  iapply Hk $$ [Hb Hheld]
  isplitl [Hb] <;> iassumption

/-- The TensorCore's thread. -/
theorem main_wp [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ held (SparseCore.T d) (ucRefs τ sig) (V6 m d) ∗ (K (F := F)).tcEnd d) := by
  unfold SparseCore.Cfg.tcRes SparseCore.Cfg.tcEnd G
  rw [main_eq]
  have hheld : (unscopedBufs d (fun b => m ((SparseCore.T d).loc b)) : sProp 𝕄) = held (SparseCore.T d) (ucRefs τ sig) (V0 m d) :=
    Pipeline.unscopedBufs_held d (V0 m d)
  rw [hheld]
  iintro ⟨#Hctx, Hst, ⟨Hb, Hheld, Hts, -⟩, Hg0, Hg1⟩
  ihave #Hlev := ((K (F := F)).ctx_levAts κ) $$ Hctx
  iapply (StableHlo.wp_seq 𝒱 none Set.univ d (ucRefs τ sig) (fun _ => calls d) prep prep_bufs prep_fresh (V0 m d)) $$ [Hb Hheld]
  · isplitl [Hb] <;> iassumption
  iintro ⟨Hb, Hheld⟩
  unfold calls
  simp only [wp_bind, wp_pure]
  iapply (gather0_wp m κ d (V1 m d) (fresh0 m d)) $$ [-]
  isplitr; · iexact Hctx
  isplitl [Hst]; · iexact Hst
  isplitl [Hheld]; · iexact Hheld
  iintro ⟨Hst, Hheld⟩
  iapply (gather1_wp m κ d (V2 m d) (fresh1 m d)) $$ [-]
  isplitr; · iexact Hctx
  isplitl [Hst]; · iexact Hst
  isplitl [Hheld]; · iexact Hheld
  iintro ⟨Hst, Hheld⟩
  ihave Hst := (lend d) $$ Hst
  icases Hst with ⟨Ho, Hback⟩
  iapply (call0_wp (V3 m) d) $$ [-]
  isplitr [Hb Hheld Ho Hg0]
  rotate_left
  · isplitl [Hb]; · iexact Hb
    isplitl [Hheld]; · iexact Hheld
    isplitl [Ho]; · iexact Ho
    isplitr; · iexact Hlev
    iexact Hg0
  iintro ⟨Hb, Hheld, Ho⟩
  iapply (call1_wp (V4 m) d) $$ [-]
  isplitr [Hb Hheld Ho Hg1]
  rotate_left
  · isplitl [Hb]; · iexact Hb
    isplitl [Hheld]; · iexact Hheld
    isplitl [Ho]; · iexact Ho
    isplitr; · iexact Hlev
    iexact Hg1
  iintro ⟨Hb, Hheld, Ho⟩
  ihave Hst := Hback $$ Ho
  iapply (join_wp d (V5 m d)) $$ [-]
  isplitl [Hb]; · iexact Hb
  isplitl [Hheld]; · iexact Hheld
  iintro ⟨Hb, Hheld⟩
  imodintro
  isplitl [Hst]; · iexact Hst
  isplitl [Hheld]; · iexact Hheld
  isplitl [Hb] <;> iassumption

/-- The buffers of the last valuation, read off a final state. -/
theorem read (d : Dev nD) (s' : Phys nD τ sig (Elt F)) :
    iprop((held (SparseCore.T d) (ucRefs τ sig) (V6 m d) : sProp 𝕄) ∗ SI s')
      ⊢ (⌜∀ b ∈ ucRefs τ sig, s'.mem.mem (d, b) = V6 m d b⌝ : sProp 𝕄) := by
  have one : ∀ b : {b // b ∈ ucRefs τ sig}, iprop((held (SparseCore.T d) (ucRefs τ sig) (V6 m d) : sProp 𝕄) ∗ SI s')
      ⊢ (⌜s'.mem.mem (d, b.1) = V6 m d b.1⌝ : sProp 𝕄) := by
    intro b
    have pick : (held (SparseCore.T d) (ucRefs τ sig) (V6 m d) : sProp 𝕄) ⊢ (((d, b.1) : Loc nD τ sig) ↦{fullShare} V6 m d b.1 : sProp 𝕄) :=
      BI.bigSep_elim (Φ := fun b : DevRef τ sig => (((d, b) : Loc nD τ sig) ↦{fullShare} V6 m d b : sProp 𝕄)) b.2
    iintro ⟨Hh, HSI⟩
    ihave Hx := pick $$ Hh
    ihave H := (SI_pointsTo_agree (st := s') (ℓ := (d, b.1)) (I := Finset.univ) (q := fullShare) (f := V6 m d b.1)) $$ [HSI Hx]
    · isplitl [HSI] <;> iassumption
    icases H with %h
    ipureintro
    exact funext fun i => h i (Finset.mem_univ i)
  exact ((Laws.forall_intro one).trans Laws.pure_forall.2).trans (Laws.pure_mono fun all b mem => all ⟨b, mem⟩)

/-- THE RUN: from ids in range the program ends, every buffer of the TensorCore's thread as in the last valuation and
    every semaphore at zero. -/
theorem run_all [∀ e, Nonempty (Elt F e)] (hr : InRange m) :
    θ_run (Cert.KernelIdeal.defs (F := F)) (Cert.KernelIdeal.threads (F := F)) ⟨m, fun _ => 0, ρ⟩
      (fun r => (∀ d : Dev nD, ∀ b ∈ ucRefs τ sig, r.2.mem (d, b) = V6 m d b) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m facts hr | 1 => tileObl1 m facts hr)
    (fun q _ => SparseCore.Cfg.VecSplit.of_plain (vecSplit m q))
    m ρ main G (fun d => held (SparseCore.T d) (ucRefs τ sig) (V6 m d)) (u₀ (F := F)) (deal m) (main_wp m ρ)
    (fun d s' => ∀ b ∈ ucRefs τ sig, s'.mem.mem (d, b) = V6 m d b) (read m)
    (fun r => (∀ d : Dev nD, ∀ b ∈ ucRefs τ sig, r.2.mem (d, b) = V6 m d b) ∧ r.2.sem = fun _ => 0)
    (fun _ h hz => ⟨h, hz⟩)

end Launch

end Cert.Proof.Recommender

end
-- ==== Proof.Frames.lean ====
/-
  The frames: both programs and the reference terminate, leave their arguments as they were, and end with every
  semaphore at zero.
-/
module

public import proofs.«01_k».proof.Defs
public import proofs.«01_k».proof.Proof.Gen.ReferenceIdeal.Run
public import proofs.«01_k».proof.Proof.Range
public import proofs.«01_k».proof.Proof.Printed
public import proofs.«01_k».proof.Proof.Launch

@[expose] public section

noncomputable section

namespace Cert.Proof.Recommender

open Cert.KernelIdeal Cert.KernelIdeal.Gen

open Idealize.ShloMosaic Idealize.ShloMosaic.TcCoe Idealize.SL.Sem
open Idealize.ShloMosaic.Pipeline (ucRefs)

variable {F : FTy → Type} [FloatOps F]

/-- THE RUN, read at the arguments and the result. -/
theorem run_main [∀ e, Nonempty (Elt F e)] (m : (ℓ : Loc nD τ sig) → Buf (Elt F) ℓ) (ρ : Dev nD → PrngReg) (hr : InRange m) :
    θ_run (Cert.KernelIdeal.defs (F := F)) (Cert.KernelIdeal.threads (F := F)) ⟨m, fun _ => 0, ρ⟩ (fun r =>
      (∀ c : Dev nD, r.2.mem ((c.tc : Thread nD τ).loc main_v16) = scores m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11))
      ∧ r.2.sem = fun _ => 0) := by
  refine (θ_run _ _ _).mono (fun r h => ⟨fun c => ?_, h.2⟩) (run_all m ρ hr)
  have keep : ∀ b : Ref sig .tc, Proc.devRef .tc b ∈ ucRefs τ sig →
      b ∉ [main_v0, main_v1, main_v2, main_v3, main_v4, main_v5, main_v6, main_v7, main_v8, main_v9, main_v10,
        main_v11_0, main_v11_1, main_v12_0, main_v12_1, main_v13, main_v14, main_v15, main_v16] →
      r.2.mem ((c.tc : Thread nD τ).loc b) = m ((c.tc : Thread nD τ).loc b) :=
    fun b hm hb => (h.1 c _ hm).trans (V6_arg m c b hb)
  refine ⟨(h.1 c (Proc.devRef .tc main_v16) (by decide)).trans (V6_v16 m c), keep _ (by decide) (by decide), keep _ (by decide) (by decide),
    keep _ (by decide) (by decide), keep _ (by decide) (by decide), keep _ (by decide) (by decide), keep _ (by decide) (by decide),
    keep _ (by decide) (by decide), keep _ (by decide) (by decide), keep _ (by decide) (by decide), keep _ (by decide) (by decide),
    keep _ (by decide) (by decide), keep _ (by decide) (by decide)⟩

/-- The precondition of the program read at extended reals puts its ids in range, -/
theorem range_ideal (m : (ℓ : Loc nD τ sig) → Buf (Elt Ideal) ℓ) (h : Cert.Pre_KernelIdeal m) : InRange (F := Ideal) m :=
  fun d j => range_of_pre _ _ _ _ _ _ _ _ _ _ _ _ (h d) j

/-- and of the program as printed, whose buffers are the same. -/
theorem range_printed (m : (ℓ : Loc Cert.Kernel.nD Cert.Kernel.τ Cert.Kernel.sig) → Buf (Elt Bits) ℓ) (h : Cert.Pre_Kernel m) :
    InRange (F := Bits) m :=
  fun d j => range_of_pre _ _ _ _ _ _ _ _ _ _ _ _ (h d) j

/-- The threads of the two programs are the same too. -/
theorem printed_threads : Cert.Kernel.threads (F := Bits) = Cert.KernelIdeal.threads (F := Bits) := rfl

/-- The frame over any float values. -/
theorem frame_any [∀ e, Nonempty (Elt F e)] (m : (ℓ : Loc nD τ sig) → Buf (Elt F) ℓ) (ρ : Dev nD → PrngReg) (hr : InRange m) :
    θ_run (Cert.KernelIdeal.defs (F := F)) (Cert.KernelIdeal.threads (F := F)) ⟨m, fun _ => 0, ρ⟩ (fun r =>
      (∀ c : Dev nD,
          r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11))
      ∧ r.2.sem = fun _ => 0) :=
  (θ_run Cert.KernelIdeal.defs _ _).mono (fun _ h => ⟨fun c => (h.1 c).2, h.2⟩) (run_main m ρ hr)

/-- The program read at extended reals keeps its arguments, -/
theorem frame_kernelIdeal : Cert.quiescent_KernelIdeal := fun m ρ h => frame_any (F := Ideal) m ρ (range_ideal m h)

set_option maxHeartbeats 2000000 in
/-- so does the program as printed, -/
theorem frame_kernel : Cert.quiescent_Kernel := by
  unfold Cert.quiescent_Kernel
  rw [printed_defs, printed_threads]
  intro m ρ h
  exact frame_any (F := Bits) m ρ (range_printed m h)

/-- so does the reference, -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

/-- with or without the precondition. -/
theorem frame_reference_pre : Cert.quiescent_ReferenceIdeal_pre_in_range := fun m ρ _ => frame_reference m ρ trivial

end Cert.Proof.Recommender

end
-- ==== Proof.Take.lean ====
/-
  The reference's lookups: taking rows of a table at ids in range reads the rows that the ids name.
-/
module

public import proofs.«01_k».proof.Proof.Gen.ReferenceIdeal.Read
public import Idealize.ShloMosaic.Lib.Pointwise
public import Idealize.ShloMosaic.Lib.ReduceAll

@[expose] public section

noncomputable section

namespace Cert.Proof.Recommender

open Cert.ReferenceIdeal Cert.ReferenceIdeal.Gen Cert.ReferenceIdeal.Read

open Idealize.ShloMosaic Idealize.ShloMosaic.Tactic

/-- The lookup's dimension numbers. -/
abbrev lookupDims := gather_S100000x128_S16384x1_S16384x128_1_0_n_n_0_1_1128

/-- A lookup at a position reads the row of the id there, clamped into the table. -/
theorem lookup_apply {α : Type} (x : S100000x128.Idx → α) (nums : IVec S16384x1 32) (n : Fin 16384) (k : Fin 128) :
    Host.gather lookupDims x nums (ix2 n k) = x (ix2 ⟨min (nums (ix2 n 0)).toInt.toNat 99999, by omega⟩ k) := by
  unfold Host.gather
  congr 1
  funext a
  refine Fin.ext ?_
  change (lookupDims).start (ix2 n k) nums a + (lookupDims).batchCoord (ix2 n k) a + (lookupDims).offCoord (ix2 n k) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (lookupDims).startIndexMap from List.mem_singleton.mpr rfl)]
    have hsi : (lookupDims).siIdx (ix2 n k) ⟨List.idxOf (0 : Fin 2) (lookupDims).startIndexMap,
        List.idxOf_lt_length_iff.2 (List.mem_singleton.mpr rfl)⟩ = ix2 n 0 := by
      funext b
      match b with
      | ⟨0, _⟩ => rfl
      | ⟨1, _⟩ => rfl
    rw [hsi]
    rfl
  · have hs : (lookupDims).start (ix2 n k) nums 1 = 0 := by
      unfold GatherDims.start
      exact dif_neg (show (1 : Fin 2) ∉ ([0] : List (Fin 2)) by decide)
    rw [GatherDims.batchCoord_eq_zero _ _ _ List.not_mem_nil, hs, Nat.add_zero, Nat.zero_add]
    rfl

/-- A word below 100000 is its own signed value. -/
theorem word_signed {v : BitVec 32} (h : v.toNat < 100000) : v.toInt = v.toNat := by
  rw [BitVec.toInt_eq_toNat_cond, if_pos (by omega)]

variable (x0 : (⟨S16384, .i32⟩ : BufTy).Contents (Elt Ideal)) (x2 : (⟨S100000x128, .f32⟩ : BufTy).Contents (Elt Ideal))

/-- An id in range is not wrapped. -/
theorem unwrapped (n : Fin 16384) (hn : (x0 (ix1 n) : BitVec 32).toNat < 100000) :
    val_main_call0_v5 (F := Ideal) x0 (ix2 n 0) = x0 (ix1 n) := by
  have e : val_main_call0_v5 (F := Ideal) x0 (ix2 n 0)
      = Scalar.select (IntOp.cmpi .slt (x0 (ix1 n)) 0#32) (IntOp.addi (x0 (ix1 n)) 100000#32) (x0 (ix1 n)) := by
    pointwise [val_main_call0_v5, val_main_call0_v4, val_main_call0_v3, val_main_call0_v2, val_main_call0_v1, val_main_call0_v0,
      val_main_call0_c, val_main_call0_c_0]
  rw [e]
  have hc : IntOp.cmpi .slt (x0 (ix1 n)) 0#32 ≠ 1#1 := fun h => by
    have := IntOp.cmpi_slt.1 h
    rw [word_signed hn] at this
    simp at this
    omega
  unfold Scalar.select
  exact if_neg hc

/-- It lies in the table, -/
theorem in_table (n : Fin 16384) (hn : (x0 (ix1 n) : BitVec 32).toNat < 100000) :
    val_main_call0_v11 (F := Ideal) x0 (ix2 n 0) = 1#1 := by
  have e : val_main_call0_v11 (F := Ideal) x0 (ix2 n 0)
      = IntOp.andi (IntOp.cmpi .sge (val_main_call0_v5 (F := Ideal) x0 (ix2 n 0)) 0#32)
          (IntOp.cmpi .sle (val_main_call0_v5 (F := Ideal) x0 (ix2 n 0)) 99999#32) := by
    pointwise [val_main_call0_v11, val_main_call0_v10, val_main_call0_v9, val_main_call0_v8, val_main_call0_v7, val_main_call0_v6,
      val_main_call0_c_1, val_main_call0_c_2]
  rw [e, unwrapped x0 n hn, IntOp.andi_eq_one, IntOp.cmpi_sge, IntOp.cmpi_sle, word_signed hn]
  exact ⟨by simp, by simp; omega⟩

/-- its position passes the range test, -/
theorem passes (n : Fin 16384) (hn : ∀ j : S16384.Idx, (x0 j : BitVec 32).toNat < 100000) :
    val_main_call0_v12 (F := Ideal) x0 (ix1 n) = 1#1 := by
  unfold val_main_call0_v12
  refine Host.reduce_andi_one _ _ _ _ _ rfl (fun i => ?_)
  have hi : i = ix2 (i 0) 0 := by
    funext a
    match a with
    | ⟨0, _⟩ => rfl
    | ⟨1, _⟩ => exact Subsingleton.elim (α := Fin 1) _ _
  exact (congrArg (val_main_call0_v11 (F := Ideal) x0) hi).trans (in_table x0 (i 0) (hn _))

/-- so that the lookup's result there is the row that the id names. -/
theorem taken_apply (n : Fin 16384) (k : Fin 128) (hn : ∀ j : S16384.Idx, (x0 j : BitVec 32).toNat < 100000) :
    val_main_v0 (F := Ideal) x0 x2 (ix2 n k) = x2 (ix2 ⟨(x0 (ix1 n) : BitVec 32).toNat % 100000, Nat.mod_lt _ (by norm_num)⟩ k) := by
  rw [val_main_v0_apply]
  have hm : val_main_call0_v14 (F := Ideal) x0 (ix2 n k) = 1#1 := by
    have e : val_main_call0_v14 (F := Ideal) x0 (ix2 n k) = val_main_call0_v12 (F := Ideal) x0 (ix1 n) := by
      pointwise [val_main_call0_v14]
    rw [e, passes x0 n hn]
  refine (if_pos hm).trans ?_
  unfold val_main_call0_v13
  rw [lookup_apply]
  have h := hn (ix1 n)
  refine congrArg (fun q => x2 (ix2 q k)) (Fin.ext ?_)
  show min (val_main_call0_v5 (F := Ideal) x0 (ix2 n 0) : BitVec 32).toInt.toNat 99999 = (x0 (ix1 n) : BitVec 32).toNat % 100000
  rw [unwrapped x0 n h, word_signed h, Nat.mod_eq_of_lt h]
  simp
  omega

/-- The second lookup is the first one's text. -/
theorem second_take : val_main_v1 (F := Ideal) x0 x2 = val_main_v0 (F := Ideal) x0 x2 := rfl

end Cert.Proof.Recommender

end
-- ==== Proof.Score.lean ====
/-
  The score of one pair of embedding rows, over the extended reals, and that the network's body on a block computes it
  row by row.
-/
module

public import proofs.«01_k».proof.Proof.Mlp
public import Idealize.ShloMosaic.Lib.IdealHost

@[expose] public section

noncomputable section

namespace Cert.Proof.Recommender

open Cert.KernelIdeal Cert.KernelIdeal.Gen

open Idealize.ShloMosaic Idealize.ShloMosaic.Tactic

/-- Two rows of 128 side by side. -/
def pair (u i : Fin 128 → EReal) (k : Fin 256) : EReal :=
  if h : k.val < 128 then u ⟨k.val, h⟩ else i ⟨k.val - 128, by omega⟩

/-- The first layer: 256 inputs, 1024 outputs, the positive part. -/
def layer1 (u i : Fin 128 → EReal) (w1 : Fin 256 → Fin 1024 → EReal) (b1 : Fin 1024 → EReal) (j : Fin 1024) : EReal :=
  max (∑ k : Fin 256, pair u i k * w1 k j + b1 j) 0

/-- The second layer: 128 outputs. -/
def layer2 (x : Fin 1024 → EReal) (w2 : Fin 1024 → Fin 128 → EReal) (b2 : Fin 128 → EReal) (j : Fin 128) : EReal :=
  ∑ k : Fin 1024, x k * w2 k j + b2 j

/-- The third layer: 1024 outputs, the positive part. -/
def layer3 (x : Fin 128 → EReal) (w3 : Fin 128 → Fin 1024 → EReal) (b3 : Fin 1024 → EReal) (j : Fin 1024) : EReal :=
  max (∑ k : Fin 128, x k * w3 k j + b3 j) 0

/-- The score of a user's row `u` and an item's row `i`. -/
def score (u i : Fin 128 → EReal) (w1 : Fin 256 → Fin 1024 → EReal) (b1 : Fin 1024 → EReal) (w2 : Fin 1024 → Fin 128 → EReal)
    (b2 : Fin 128 → EReal) (w3 : Fin 128 → Fin 1024 → EReal) (b3 : Fin 1024 → EReal) (w4 : Fin 1024 → EReal) (b4 : EReal) : EReal :=
  ∑ k : Fin 1024, layer3 (layer2 (layer1 u i w1 b1) w2 b2) w3 b3 k * w4 k + b4

/-- Row `r` of the block's third layer. -/
theorem hidden_apply (u i : Vec Ideal S4096x128 .f32) (w1 : Vec Ideal S256x1024 .bf16) (b1 : Vec Ideal S1x1024 .bf16)
    (w2 : Vec Ideal S1024x128 .bf16) (b2 : Vec Ideal S1x128 .bf16) (w3 : Vec Ideal S128x1024 .bf16) (b3 : Vec Ideal S1x1024 .bf16)
    (r : Fin 4096) (c : Fin 1024) :
    k2_pay2 u i w1 b1 w2 b2 w3 b3 (ix2 r c) =
      layer3 (layer2 (layer1 (fun k => u (ix2 r k)) (fun k => i (ix2 r k)) (fun k j => w1 (ix2 k j)) (fun j => b1 (ix2 0 j)))
        (fun k j => w2 (ix2 k j)) (fun j => b2 (ix2 0 j))) (fun k j => w3 (ix2 k j)) (fun j => b3 (ix2 0 j)) c := by
  pointwise [k2_pay2, layer3, layer2, layer1, pair]

/-- Row `r` of the block's results. -/
theorem mlp_apply (u i : Vec Ideal S4096x128 .f32) (w1 : Vec Ideal S256x1024 .bf16) (b1 : Vec Ideal S1x1024 .bf16)
    (w2 : Vec Ideal S1024x128 .bf16) (b2 : Vec Ideal S1x128 .bf16) (w3 : Vec Ideal S128x1024 .bf16) (b3 : Vec Ideal S1x1024 .bf16)
    (w4 : Vec Ideal S1x1024 .f32) (b4 : Vec Ideal S1x1 .f32) (r : Fin 4096) :
    mlp u i w1 b1 w2 b2 w3 b3 w4 b4 (ix2 r 0) =
      score (fun k => u (ix2 r k)) (fun k => i (ix2 r k)) (fun k j => w1 (ix2 k j)) (fun j => b1 (ix2 0 j))
        (fun k j => w2 (ix2 k j)) (fun j => b2 (ix2 0 j)) (fun k j => w3 (ix2 k j)) (fun j => b3 (ix2 0 j)) (fun k => w4 (ix2 0 k))
        (b4 (ix2 0 0)) := by
  have h : ∀ v : FVec Ideal S4096x1024 .f32, k2_pay1 v w4 b4 (ix2 r 0) = (∑ k : Fin 1024, v (ix2 r k) * w4 (ix2 0 k)) + b4 (ix2 0 0) := by
    intro v
    pointwise [k2_pay1]
  unfold mlp score
  rw [h]
  simp only [hidden_apply]

end Cert.Proof.Recommender

end
-- ==== Proof.Result.lean ====
/-
  What the program's result holds, over the extended reals: at every position the score of the two rows that the ids there
  name.
-/
module

public import proofs.«01_k».proof.Proof.Score
public import proofs.«01_k».proof.Proof.Steps

@[expose] public section

noncomputable section

namespace Cert.Proof.Recommender

open Cert.KernelIdeal Cert.KernelIdeal.Gen

open Idealize.ShloMosaic Idealize.ShloMosaic.TcCoe Idealize.ShloMosaic.Tactic

/-- The row of a table that the id at position `n` names. -/
def rowOf (nums : Vec Ideal S16384 .i32) (tab : Vec Ideal S100000x128 .f32) (n : Fin 16384) (k : Fin 128) : EReal :=
  tab (ix2 ⟨(nums (ix1 n) : BitVec 32).toNat % 100000, Nat.mod_lt _ (by norm_num)⟩ k)

/-- The score at position `n`, from the twelve arguments. -/
def scoreAt (a0 a1 : Vec Ideal S16384 .i32) (a2 a3 : Vec Ideal S100000x128 .f32) (a4 : Vec Ideal S256x1024 .f32) (a5 : Vec Ideal S1024 .f32)
    (a6 : Vec Ideal S1024x128 .f32) (a7 : Vec Ideal S128 .f32) (a8 : Vec Ideal S128x1024 .f32) (a9 : Vec Ideal S1024 .f32)
    (a10 : Vec Ideal S1024x1 .f32) (a11 : Vec Ideal S1 .f32) (n : Fin 16384) : EReal :=
  score (rowOf a0 a2 n) (rowOf a1 a3 n) (fun k j => a4 (ix2 k j)) (fun j => a5 (ix1 j)) (fun k j => a6 (ix2 k j)) (fun j => a7 (ix1 j))
    (fun k j => a8 (ix2 k j)) (fun j => a9 (ix1 j)) (fun k => a10 (ix2 k 0)) (a11 (ix1 0))

/-- A bias in one row. -/
theorem bias1024 (x : Vec Ideal S1024 .f32) (j : Fin 1024) :
    (truncf .bf16 (shapeCast S1x1024 x shapeCasts_S1024_S1x1024 : FVec Ideal S1x1024 .f32) bitsLt_bf16_f32 : FVec Ideal S1x1024 .bf16) (ix2 0 j) = x (ix1 j) := by
  pointwise

theorem bias128 (x : Vec Ideal S128 .f32) (j : Fin 128) :
    (truncf .bf16 (shapeCast S1x128 x shapeCasts_S128_S1x128 : FVec Ideal S1x128 .f32) bitsLt_bf16_f32 : FVec Ideal S1x128 .bf16) (ix2 0 j) = x (ix1 j) := by
  pointwise

/-- The last layer's column as a row, -/
theorem column1024 (x : Vec Ideal S1024x1 .f32) (k : Fin 1024) :
    (shapeCast S1x1024 x shapeCasts_S1024x1_S1x1024 : FVec Ideal S1x1024 .f32) (ix2 0 k) = x (ix2 k 0) := by
  pointwise

/-- and its one bias. -/
theorem bias1 (x : Vec Ideal S1 .f32) : (shapeCast S1x1 x shapeCasts_S1_S1x1 : FVec Ideal S1x1 .f32) (ix2 0 0) = x (ix1 0) := by
  pointwise

variable (m : (ℓ : Loc nD τ sig) → Buf (Elt Ideal) ℓ) (d : Dev nD)

/-- Row `r` of one half of the results is the score at its position. -/
theorem half_apply (base : Nat) (hb : base + 8192 ≤ 16384) (r : Fin 8192) :
    half m d base hb (ix2 r 0) = scoreAt (m (tl d main_arg0)) (m (tl d main_arg1)) (m (tl d main_arg2)) (m (tl d main_arg3))
      (m (tl d main_arg4)) (m (tl d main_arg5)) (m (tl d main_arg6)) (m (tl d main_arg7)) (m (tl d main_arg8)) (m (tl d main_arg9))
      (m (tl d main_arg10)) (m (tl d main_arg11)) ⟨base + r.val, by omega⟩ := by
  unfold half
  have hr : r.val = r.val / 4096 * 4096 + r.val % 4096 := by omega
  rw [dense_apply _ _ _ _ _ _ _ _ _ _ ⟨r.val / 4096, by omega⟩ (ix2 ⟨r.val % 4096, by omega⟩ 0) (ix2 r 0) hr, mlp_apply]
  unfold scoreAt
  simp only [bias1024, bias128, column1024, bias1]
  have rows : ∀ (U : Vec Ideal S8192x128 .f32) (k : Fin 128),
      rowsAt ⟨r.val / 4096, by omega⟩ U (ix2 ⟨r.val % 4096, by omega⟩ k) = U (ix2 r k) := fun U k =>
    congrArg (fun q => U (ix2 q k)) (Fin.ext hr.symm)
  simp only [rows]
  rfl

/-- The program's result at position `n`. -/
theorem scores_apply (n : Fin 16384) :
    scores m d (ix1 n) = scoreAt (m (tl d main_arg0)) (m (tl d main_arg1)) (m (tl d main_arg2)) (m (tl d main_arg3))
      (m (tl d main_arg4)) (m (tl d main_arg5)) (m (tl d main_arg6)) (m (tl d main_arg7)) (m (tl d main_arg8)) (m (tl d main_arg9))
      (m (tl d main_arg10)) (m (tl d main_arg11)) n := by
  have join : ∀ a b : Vec Ideal S8192x1 .f32,
      (shapeCast S16384 (concatenate S16384x1 0 [⟨S8192x1, a⟩, ⟨S8192x1, b⟩] concatenates_S8192x1_S8192x1_S16384x1_d0 : FVec Ideal S16384x1 .f32)
        shapeCasts_S16384x1_S16384 : FVec Ideal S16384 .f32) (ix1 n) =
      if h : n.val < 8192 then a (ix2 ⟨n.val, h⟩ 0) else b (ix2 ⟨n.val - 8192, by omega⟩ 0) := by
    intro a b
    pointwise
  unfold scores
  refine (join _ _).trans ?_
  split
  next h =>
    rw [half_apply]
    exact congrArg _ (Fin.ext (by simp))
  next h =>
    rw [half_apply]
    exact congrArg _ (Fin.ext (by simp; omega))

end Cert.Proof.Recommender

end
-- ==== Proof.Expected.lean ====
/-
  What the reference computes, over the extended reals: at every position the score of the two rows that the ids there
  name.
-/
module

public import proofs.«01_k».proof.Proof.Take
public import proofs.«01_k».proof.Proof.Result

@[expose] public section

noncomputable section

namespace Cert.Proof.Recommender

open Cert.ReferenceIdeal Cert.ReferenceIdeal.Gen Cert.ReferenceIdeal.Read

open Idealize.ShloMosaic Idealize.ShloMosaic.Tactic

variable (x0 x1 : (⟨S16384, .i32⟩ : BufTy).Contents (Elt Ideal)) (x2 x3 : (⟨S100000x128, .f32⟩ : BufTy).Contents (Elt Ideal))
  (x4 : (⟨S256x1024, .f32⟩ : BufTy).Contents (Elt Ideal)) (x5 : (⟨S1024, .f32⟩ : BufTy).Contents (Elt Ideal))
  (x6 : (⟨S1024x128, .f32⟩ : BufTy).Contents (Elt Ideal)) (x7 : (⟨S128, .f32⟩ : BufTy).Contents (Elt Ideal))
  (x8 : (⟨S128x1024, .f32⟩ : BufTy).Contents (Elt Ideal)) (x9 : (⟨S1024, .f32⟩ : BufTy).Contents (Elt Ideal))
  (x10 : (⟨S1024x1, .f32⟩ : BufTy).Contents (Elt Ideal)) (x11 : (⟨S1, .f32⟩ : BufTy).Contents (Elt Ideal))

/-- The two lookups' rows side by side. -/
theorem inputs_apply (n : Fin 16384) (k : Fin 256) (h0 : ∀ j : S16384.Idx, (x0 j : BitVec 32).toNat < 100000)
    (h1 : ∀ j : S16384.Idx, (x1 j : BitVec 32).toNat < 100000) :
    val_main_v2 (F := Ideal) x0 x1 x2 x3 (ix2 n k) = pair (rowOf x0 x2 n) (rowOf x1 x3 n) k := by
  have e : val_main_v2 (F := Ideal) x0 x1 x2 x3 (ix2 n k)
      = pair (fun k => val_main_v0 (F := Ideal) x0 x2 (ix2 n k)) (fun k => val_main_v1 (F := Ideal) x1 x3 (ix2 n k)) k := by
    pointwise [val_main_v2, pair]
  rw [e, second_take]
  simp only [taken_apply x0 x2 n _ h0, taken_apply x1 x3 n _ h1]
  rfl

/-- The first layer at a position. -/
theorem first_apply (n : Fin 16384) (j : Fin 1024) :
    val_main_v7 (F := Ideal) x0 x1 x2 x3 x4 x5 (ix2 n j) =
      max ((∑ k : Fin 256, val_main_v2 (F := Ideal) x0 x1 x2 x3 (ix2 n k) * x4 (ix2 k j)) + x5 (ix1 j)) 0 := by
  pointwise [val_main_v7, val_main_v6, val_main_v5, val_main_v4, val_main_v3, val_main_call2_v0, val_main_call2_cst]

/-- The second layer at a position, -/
theorem second_apply (n : Fin 16384) (j : Fin 128) :
    val_main_v11 (F := Ideal) x0 x1 x2 x3 x4 x5 x6 x7 (ix2 n j) =
      (∑ k : Fin 1024, val_main_v7 (F := Ideal) x0 x1 x2 x3 x4 x5 (ix2 n k) * x6 (ix2 k j)) + x7 (ix1 j) := by
  pointwise [val_main_v11, val_main_v10, val_main_v9, val_main_v8]

/-- the third layer, -/
theorem third_apply (n : Fin 16384) (j : Fin 1024) :
    val_main_v16 (F := Ideal) x0 x1 x2 x3 x4 x5 x6 x7 x8 x9 (ix2 n j) =
      max ((∑ k : Fin 128, val_main_v11 (F := Ideal) x0 x1 x2 x3 x4 x5 x6 x7 (ix2 n k) * x8 (ix2 k j)) + x9 (ix1 j)) 0 := by
  pointwise [val_main_v16, val_main_v15, val_main_v14, val_main_v13, val_main_v12, val_main_call3_v0, val_main_call3_cst]

/-- and the result. -/
theorem last_apply (n : Fin 16384) :
    val_main_v21 (F := Ideal) x0 x1 x2 x3 x4 x5 x6 x7 x8 x9 x10 x11 (ix1 n) =
      (∑ k : Fin 1024, val_main_v16 (F := Ideal) x0 x1 x2 x3 x4 x5 x6 x7 x8 x9 (ix2 n k) * x10 (ix2 k 0)) + x11 (ix1 0) := by
  pointwise [val_main_v21, val_main_v20, val_main_v19, val_main_v18, val_main_v17]

/-- The reference's result at a position is the score there. -/
theorem expected_apply (n : Fin 16384) (h0 : ∀ j : S16384.Idx, (x0 j : BitVec 32).toNat < 100000)
    (h1 : ∀ j : S16384.Idx, (x1 j : BitVec 32).toNat < 100000) :
    val_main_v21 (F := Ideal) x0 x1 x2 x3 x4 x5 x6 x7 x8 x9 x10 x11 (ix1 n) = scoreAt x0 x1 x2 x3 x4 x5 x6 x7 x8 x9 x10 x11 n := by
  rw [last_apply]
  simp only [third_apply, second_apply, first_apply, inputs_apply x0 x1 x2 x3 n _ h0 h1]
  rfl

end Cert.Proof.Recommender

end
-- ==== Proof.Equation.lean ====
/-
  The two programs compute the same array: over the extended reals, from equal arguments whose ids are in range, the
  program ends with what the reference ends with.
-/
module

public import proofs.«01_k».proof.Proof.Frames
public import proofs.«01_k».proof.Proof.Expected

@[expose] public section

noncomputable section

namespace Cert.Proof.Recommender

open Idealize.ShloMosaic Idealize.ShloMosaic.TcCoe Idealize.ShloMosaic.Tactic Idealize.SL.Sem

/-- The reference's result, of the program's arguments, is the program's result. -/
theorem results_eq (m : (ℓ : Loc Cert.KernelIdeal.nD Cert.KernelIdeal.τ Cert.KernelIdeal.sig) → Buf (Elt Ideal) ℓ) (hr : InRange (F := Ideal) m)
    (c : Dev Cert.KernelIdeal.nD) :
    Cert.ReferenceIdeal.Read.val_main_v21 (F := Ideal) (m (tl c Cert.KernelIdeal.main_arg0)) (m (tl c Cert.KernelIdeal.main_arg1))
      (m (tl c Cert.KernelIdeal.main_arg2)) (m (tl c Cert.KernelIdeal.main_arg3)) (m (tl c Cert.KernelIdeal.main_arg4))
      (m (tl c Cert.KernelIdeal.main_arg5)) (m (tl c Cert.KernelIdeal.main_arg6)) (m (tl c Cert.KernelIdeal.main_arg7))
      (m (tl c Cert.KernelIdeal.main_arg8)) (m (tl c Cert.KernelIdeal.main_arg9)) (m (tl c Cert.KernelIdeal.main_arg10))
      (m (tl c Cert.KernelIdeal.main_arg11)) = scores m c := by
  funext i
  have hi : i = ix1 (i 0) := (ix1_eta i).symm
  rw [hi]
  exact (expected_apply _ _ _ _ _ _ _ _ _ _ _ _ (i 0) (fun j => (hr c j).1) (fun j => (hr c j).2)).trans (scores_apply m c (i 0)).symm

/-- THE EQUATION: the two programs, run from equal arguments with ids in range, end with one result. -/
theorem equation : Cert.algebraic_KernelIdeal_ReferenceIdeal := by
  intro m g m' g' hpre hagree
  have hr := range_ideal m hpre
  refine ⟨fun c => scores m c, (θ_run Cert.KernelIdeal.defs _ _).mono (fun _ h => h.1) (run_main (F := Ideal) m g hr), ?_⟩
  refine (θ_run Cert.ReferenceIdeal.defs _ _).mono (fun r h c => ⟨(h c).1.trans ?_, (h c).2⟩) (Cert.ReferenceIdeal.Value.run (F := Ideal) m' g')
  obtain ⟨e0, e1, e2, e3, e4, e5, e6, e7, e8, e9, e10, e11⟩ := hagree c
  rw [Cert.ReferenceIdeal.Read.val_main_v21_eq, e0, e1, e2, e3, e4, e5, e6, e7, e8, e9, e10, e11]
  exact results_eq m hr c

end Cert.Proof.Recommender

end
-- ==== Proof.lean ====
/-
  The claim, assembled: the frames of the program as printed, of the program read at extended reals and of the reference
  (Proof/Frames.lean), the pass that rewrites nothing, and the equation of the two results (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.Equation
public import Idealize.ShloMosaic.Adequacy
public import Idealize.ShloMosaic.Init

@[expose] public section

noncomputable section

namespace Cert.Proof

/-- Everything that is claimed: the four frames, the pass, and the equation. -/
theorem claim : Cert.Claim :=
  ⟨Cert.Kernel.Gen.facts, Cert.KernelIdeal.Gen.facts, Cert.ReferenceIdeal.Gen.facts, Cert.Pre_in_range.Gen.facts,
    Recommender.frame_kernel, Recommender.frame_kernelIdeal, Recommender.frame_reference, Recommender.frame_reference_pre, trivial,
    Recommender.equation⟩

end Cert.Proof

end
